-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite_mem [hPre_finite_mem : Cert.Pre_finite_mem.Facts] (m : (ℓ : Loc Cert.FinalIdeal.nD Cert.FinalIdeal.τ Cert.FinalIdeal.sig) → Buf (Elt Ideal) ℓ) : Prop :=
  ∀ c : Dev Cert.FinalIdeal.nD,
    (Cert.Pre_finite_mem.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5)) (m ((c.tc : Thread Cert.FinalIdeal.nD Cert.FinalIdeal.τ).loc Cert.FinalIdeal.main_arg6)) (m ((c.tc : Thread Cert.FinalIdeal.nD Cert.FinalIdeal.τ).loc Cert.FinalIdeal.main_arg7))) = (fun _ => 1#1)

def Pre_FinalReferenceIdeal (m : (ℓ : Loc Cert.FinalReferenceIdeal.nD Cert.FinalReferenceIdeal.τ Cert.FinalReferenceIdeal.sig) → Buf (Elt Ideal) ℓ) : Prop :=
  True

def Pre_FinalReferenceIdeal_finite_mem [hPre_finite_mem : Cert.Pre_finite_mem.Facts] (m : (ℓ : Loc Cert.FinalReferenceIdeal.nD Cert.FinalReferenceIdeal.τ Cert.FinalReferenceIdeal.sig) → Buf (Elt Ideal) ℓ) : Prop :=
  ∀ c : Dev Cert.FinalReferenceIdeal.nD,
    (Cert.Pre_finite_mem.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2)) (m ((c.tc : Thread Cert.FinalReferenceIdeal.nD Cert.FinalReferenceIdeal.τ).loc Cert.FinalReferenceIdeal.main_arg3)) (m ((c.tc : Thread Cert.FinalReferenceIdeal.nD Cert.FinalReferenceIdeal.τ).loc Cert.FinalReferenceIdeal.main_arg4)) (m ((c.tc : Thread Cert.FinalReferenceIdeal.nD Cert.FinalReferenceIdeal.τ).loc Cert.FinalReferenceIdeal.main_arg5)) (m ((c.tc : Thread Cert.FinalReferenceIdeal.nD Cert.FinalReferenceIdeal.τ).loc Cert.FinalReferenceIdeal.main_arg6)) (m ((c.tc : Thread Cert.FinalReferenceIdeal.nD Cert.FinalReferenceIdeal.τ).loc Cert.FinalReferenceIdeal.main_arg7))) = (fun _ => 1#1)

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalIdeal_pre_finite_mem [hFinalIdeal : Cert.FinalIdeal.Facts] [hPre_finite_mem : Cert.Pre_finite_mem.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite_mem m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7))
      ∧ r.2.sem = fun _ => 0)

def quiescent_FinalReferenceIdeal_pre_finite_mem [hFinalReferenceIdeal : Cert.FinalReferenceIdeal.Facts] [hPre_finite_mem : Cert.Pre_finite_mem.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal_finite_mem m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3)
      ∧ r.2.mem ((c.tc : Thread Cert.InnerReferenceIdeal.nD Cert.InnerReferenceIdeal.τ).loc Cert.InnerReferenceIdeal.main_arg4) = m ((c.tc : Thread Cert.InnerReferenceIdeal.nD Cert.InnerReferenceIdeal.τ).loc Cert.InnerReferenceIdeal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Final_FinalIdeal : Prop :=
  True

def algebraic_FinalIdeal_FinalReferenceIdeal_pre_finite_mem [hFinalIdeal : Cert.FinalIdeal.Facts] [hFinalReferenceIdeal : Cert.FinalReferenceIdeal.Facts] [hPre_finite_mem : Cert.Pre_finite_mem.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal_finite_mem m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)
      ∧ m' ((c.tc : Thread Cert.FinalReferenceIdeal.nD Cert.FinalReferenceIdeal.τ).loc Cert.FinalReferenceIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v25)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v25) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v35) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6)
          ∧ r.2.mem ((c.tc : Thread Cert.FinalReferenceIdeal.nD Cert.FinalReferenceIdeal.τ).loc Cert.FinalReferenceIdeal.main_arg7) = m' ((c.tc : Thread Cert.FinalReferenceIdeal.nD Cert.FinalReferenceIdeal.τ).loc Cert.FinalReferenceIdeal.main_arg7))

def preserves_Inner_InnerIdeal : Prop :=
  True

def algebraic_InnerIdeal_InnerReferenceIdeal [hInnerIdeal : Cert.InnerIdeal.Facts] [hInnerReferenceIdeal : Cert.InnerReferenceIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerIdeal m →
    (∀ c : Dev Cert.InnerIdeal.nD,
      m' ((c.tc : Thread Cert.InnerReferenceIdeal.nD Cert.InnerReferenceIdeal.τ).loc Cert.InnerReferenceIdeal.main_arg0) = m ((c.tc : Thread Cert.InnerIdeal.nD Cert.InnerIdeal.τ).loc Cert.InnerIdeal.main_arg0)
      ∧ m' ((c.tc : Thread Cert.InnerReferenceIdeal.nD Cert.InnerReferenceIdeal.τ).loc Cert.InnerReferenceIdeal.main_arg1) = m ((c.tc : Thread Cert.InnerIdeal.nD Cert.InnerIdeal.τ).loc Cert.InnerIdeal.main_arg1)
      ∧ m' ((c.tc : Thread Cert.InnerReferenceIdeal.nD Cert.InnerReferenceIdeal.τ).loc Cert.InnerReferenceIdeal.main_arg2) = m ((c.tc : Thread Cert.InnerIdeal.nD Cert.InnerIdeal.τ).loc Cert.InnerIdeal.main_arg2)
      ∧ m' ((c.tc : Thread Cert.InnerReferenceIdeal.nD Cert.InnerReferenceIdeal.τ).loc Cert.InnerReferenceIdeal.main_arg3) = m ((c.tc : Thread Cert.InnerIdeal.nD Cert.InnerIdeal.τ).loc Cert.InnerIdeal.main_arg3)
      ∧ m' ((c.tc : Thread Cert.InnerReferenceIdeal.nD Cert.InnerReferenceIdeal.τ).loc Cert.InnerReferenceIdeal.main_arg4) = m ((c.tc : Thread Cert.InnerIdeal.nD Cert.InnerIdeal.τ).loc Cert.InnerIdeal.main_arg4)) →
    ∃ (v0 : (c : Dev Cert.InnerIdeal.nD) → Buf (Elt Ideal) ((c.tc : Thread Cert.InnerIdeal.nD Cert.InnerIdeal.τ).loc Cert.InnerIdeal.main_v4_0)) (v1 : (c : Dev Cert.InnerIdeal.nD) → Buf (Elt Ideal) ((c.tc : Thread Cert.InnerIdeal.nD Cert.InnerIdeal.τ).loc Cert.InnerIdeal.main_v4_1)) (v2 : (c : Dev Cert.InnerIdeal.nD) → Buf (Elt Ideal) ((c.tc : Thread Cert.InnerIdeal.nD Cert.InnerIdeal.τ).loc Cert.InnerIdeal.main_v4_2)) (v3 : (c : Dev Cert.InnerIdeal.nD) → Buf (Elt Ideal) ((c.tc : Thread Cert.InnerIdeal.nD Cert.InnerIdeal.τ).loc Cert.InnerIdeal.main_v4_3)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v4_0) = v0 c
          ∧ r.2.mem ((c.tc : Thread Cert.InnerIdeal.nD Cert.InnerIdeal.τ).loc Cert.InnerIdeal.main_v4_1) = v1 c
          ∧ r.2.mem ((c.tc : Thread Cert.InnerIdeal.nD Cert.InnerIdeal.τ).loc Cert.InnerIdeal.main_v4_2) = v2 c
          ∧ r.2.mem ((c.tc : Thread Cert.InnerIdeal.nD Cert.InnerIdeal.τ).loc Cert.InnerIdeal.main_v4_3) = v3 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v17) = v0 c
          ∧ r.2.mem ((c.tc : Thread Cert.InnerReferenceIdeal.nD Cert.InnerReferenceIdeal.τ).loc Cert.InnerReferenceIdeal.main_v19) = v1 c
          ∧ r.2.mem ((c.tc : Thread Cert.InnerReferenceIdeal.nD Cert.InnerReferenceIdeal.τ).loc Cert.InnerReferenceIdeal.main_v20) = v2 c
          ∧ r.2.mem ((c.tc : Thread Cert.InnerReferenceIdeal.nD Cert.InnerReferenceIdeal.τ).loc Cert.InnerReferenceIdeal.main_v21) = v3 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1)
          ∧ r.2.mem ((c.tc : Thread Cert.InnerReferenceIdeal.nD Cert.InnerReferenceIdeal.τ).loc Cert.InnerReferenceIdeal.main_arg2) = m' ((c.tc : Thread Cert.InnerReferenceIdeal.nD Cert.InnerReferenceIdeal.τ).loc Cert.InnerReferenceIdeal.main_arg2)
          ∧ r.2.mem ((c.tc : Thread Cert.InnerReferenceIdeal.nD Cert.InnerReferenceIdeal.τ).loc Cert.InnerReferenceIdeal.main_arg3) = m' ((c.tc : Thread Cert.InnerReferenceIdeal.nD Cert.InnerReferenceIdeal.τ).loc Cert.InnerReferenceIdeal.main_arg3)
          ∧ r.2.mem ((c.tc : Thread Cert.InnerReferenceIdeal.nD Cert.InnerReferenceIdeal.τ).loc Cert.InnerReferenceIdeal.main_arg4) = m' ((c.tc : Thread Cert.InnerReferenceIdeal.nD Cert.InnerReferenceIdeal.τ).loc Cert.InnerReferenceIdeal.main_arg4))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalReferenceIdeal : Cert.FinalReferenceIdeal.Facts) (hInner : Cert.Inner.Facts) (hInnerIdeal : Cert.InnerIdeal.Facts) (hInnerReferenceIdeal : Cert.InnerReferenceIdeal.Facts) (hPre_finite_qk : Cert.Pre_finite_qk.Facts) (hPre_finite_mem : Cert.Pre_finite_mem.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Final (hFinal := hFinal)
    ∧ quiescent_FinalIdeal (hFinalIdeal := hFinalIdeal)
    ∧ quiescent_FinalIdeal_pre_finite_mem (hFinalIdeal := hFinalIdeal) (hPre_finite_mem := hPre_finite_mem)
    ∧ quiescent_FinalReferenceIdeal (hFinalReferenceIdeal := hFinalReferenceIdeal)
    ∧ quiescent_FinalReferenceIdeal_pre_finite_mem (hFinalReferenceIdeal := hFinalReferenceIdeal) (hPre_finite_mem := hPre_finite_mem)
    ∧ quiescent_Inner (hInner := hInner)
    ∧ quiescent_InnerIdeal (hInnerIdeal := hInnerIdeal)
    ∧ quiescent_InnerReferenceIdeal (hInnerReferenceIdeal := hInnerReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Final_FinalIdeal
    ∧ algebraic_FinalIdeal_FinalReferenceIdeal_pre_finite_mem (hFinalIdeal := hFinalIdeal) (hFinalReferenceIdeal := hFinalReferenceIdeal) (hPre_finite_mem := hPre_finite_mem)
    ∧ preserves_Inner_InnerIdeal
    ∧ algebraic_InnerIdeal_InnerReferenceIdeal (hInnerIdeal := hInnerIdeal) (hInnerReferenceIdeal := hInnerReferenceIdeal)
-- ==== Pre_finite_mem.lean ====
abbrev S16x4096x1024 : Shape := ⟨3, ![16, 4096, 1024]⟩
abbrev S16x4096x768 : Shape := ⟨3, ![16, 4096, 768]⟩
abbrev S16x4096x256 : Shape := ⟨3, ![16, 4096, 256]⟩
abbrev S16x256x4x64 : Shape := ⟨4, ![16, 256, 4, 64]⟩
abbrev S1024x1024 : Shape := ⟨2, ![1024, 1024]⟩
abbrev S1024 : Shape := ⟨1, ![1024]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x256x4x64 : S_.BroadcastsInDim S16x256x4x64 (![] : Fin 0 → Fin S16x256x4x64.rank)
  reducesTo_S16x256x4x64_S_d0_1_2_3 : S16x256x4x64.ReducesTo [0, 1, 2, 3] S_

variable [Facts]

def fn {F : FTy → Type} [FloatOps F] (main_arg0 : FVec F S16x4096x1024 .f32) (main_arg1 : FVec F S16x4096x768 .f32) (main_arg2 : FVec F S16x4096x256 .f32) (main_arg3 : FVec F S16x256x4x64 .f32) (main_arg4 : FVec F S16x256x4x64 .f32) (main_arg5 : FVec F S16x4096x1024 .f32) (main_arg6 : FVec F S1024x1024 .f32) (main_arg7 : FVec F S1024 .f32) : IVec S_ 1 :=
  let main_v0 : FVec F S16x4096x256 .f32 := Host.absf main_arg2
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x256x4x64 .f32 := Host.absf main_arg3
  let main_cst_0 : FVec F S_ .f32 := constant S_ .f32 0x7F800000#32
  let main_v5 : FVec F S16x256x4x64 .f32 := broadcastInDim S16x256x4x64 ![] bcast_S_S16x256x4x64 main_cst_0
  let main_v6 : IVec S16x256x4x64 1 := cmpf .olt main_v4 main_v5
  let main_c_1 : IVec S_ 1 := constantI S_ 1 1#1
  let main_v7 : IVec S_ 1 := (fun x v => Host.reduce IntOp.andi x v reducesTo_S16x256x4x64_S_d0_1_2_3 h_S_) main_v6 main_c_1
  let main_v8 : IVec S_ 1 := andi main_v3 main_v7
  main_v8
-- ==== Pre_finite_qk.lean ====
abbrev S16x4096x12x64 : Shape := ⟨4, ![16, 4096, 12, 64]⟩
abbrev S16x4096x12x32 : Shape := ⟨4, ![16, 4096, 12, 32]⟩
abbrev S16x4096x32 : Shape := ⟨3, ![16, 4096, 32]⟩
abbrev S_ : Shape := ⟨0, ![]⟩

class Facts : Prop where
  bcast_S_S16x4096x12x64 : S_.BroadcastsInDim S16x4096x12x64 (![] : Fin 0 → Fin S16x4096x12x64.rank)
  reducesTo_S16x4096x12x64_S_d0_1_2_3 : S16x4096x12x64.ReducesTo [0, 1, 2, 3] S_
  h_S_ : 0 < S_.numel
  bcast_S_S16x4096x12x32 : S_.BroadcastsInDim S16x4096x12x32 (![] : Fin 0 → Fin S16x4096x12x32.rank)
  reducesTo_S16x4096x12x32_S_d0_1_2_3 : S16x4096x12x32.ReducesTo [0, 1, 2, 3] S_
  bcast_S_S16x4096x32 : S_.BroadcastsInDim S16x4096x32 (![] : Fin 0 → Fin S16x4096x32.rank)
  reducesTo_S16x4096x32_S_d0_1_2 : S16x4096x32.ReducesTo [0, 1, 2] S_

variable [Facts]

def fn_part1 {F : FTy → Type} [FloatOps F] (main_v13 : IVec S_ 1) (main_v16 : IVec S16x4096x32 1) : IVec S_ 1 :=
  let main_c_5 : IVec S_ 1 := constantI S_ 1 1#1
  let main_v17 : IVec S_ 1 := (fun x v => Host.reduce IntOp.andi x v reducesTo_S16x4096x32_S_d0_1_2 h_S_) main_v16 main_c_5
  let main_v18 : IVec S_ 1 := andi main_v13 main_v17
  main_v18

def fn {F : FTy → Type} [FloatOps F] (main_arg0 : FVec F S16x4096x12x64 .f32) (main_arg1 : FVec F S16x4096x12x32 .f32) (main_arg2 : FVec F S16x4096x12x64 .f32) (main_arg3 : FVec F S16x4096x32 .f32) (main_arg4 : FVec F S16x4096x12x64 .f32) : IVec S_ 1 :=
  let main_v0 : FVec F S16x4096x12x64 .f32 := Host.absf main_arg0
  let main_cst : FVec F S_ .f32 := constant S_ .f32 0x7F800000#32
  let main_v1 : FVec F S16x4096x12x64 .f32 := broadcastInDim S16x4096x12x64 ![] bcast_S_S16x4096x12x64 main_cst
  let main_v2 : IVec S16x4096x12x64 1 := cmpf .olt main_v0 main_v1
  let main_c : IVec S_ 1 := constantI S_ 1 1#1
  let main_v3 : IVec S_ 1 := (fun x v => Host.reduce IntOp.andi x v reducesTo_S16x4096x12x64_S_d0_1_2_3 h_S_) main_v2 main_c
  let main_v4 : FVec F S16x4096x12x32 .f32 := Host.absf main_arg1
  let main_cst_0 : FVec F S_ .f32 := constant S_ .f32 0x7F800000#32
  let main_v5 : FVec F S16x4096x12x32 .f32 := broadcastInDim S16x4096x12x32 ![] bcast_S_S16x4096x12x32 main_cst_0
  let main_v6 : IVec S16x4096x12x32 1 := cmpf .olt main_v4 main_v5
  let main_c_1 : IVec S_ 1 := constantI S_ 1 1#1
  let main_v7 : IVec S_ 1 := (fun x v => Host.reduce IntOp.andi x v reducesTo_S16x4096x12x32_S_d0_1_2_3 h_S_) main_v6 main_c_1
  let main_v8 : IVec S_ 1 := andi main_v3 main_v7
  let main_v9 : FVec F S16x4096x12x64 .f32 := Host.absf main_arg2
  let main_cst_2 : FVec F S_ .f32 := constant S_ .f32 0x7F800000#32
  let main_v10 : FVec F S16x4096x12x64 .f32 := broadcastInDim S16x4096x12x64 ![] bcast_S_S16x4096x12x64 main_cst_2
  let main_v11 : IVec S16x4096x12x64 1 := cmpf .olt main_v9 main_v10
  let main_c_3 : IVec S_ 1 := constantI S_ 1 1#1
  let main_v12 : IVec S_ 1 := (fun x v => Host.reduce IntOp.andi x v reducesTo_S16x4096x12x64_S_d0_1_2_3 h_S_) main_v11 main_c_3
  let main_v13 : IVec S_ 1 := andi main_v8 main_v12
  let main_v14 : FVec F S16x4096x32 .f32 := Host.absf main_arg3
  let main_cst_4 : FVec F S_ .f32 := constant S_ .f32 0x7F800000#32
  let main_v15 : FVec F S16x4096x32 .f32 := broadcastInDim S16x4096x32 ![] bcast_S_S16x4096x32 main_cst_4
  let main_v16 : IVec S16x4096x32 1 := cmpf .olt main_v14 main_v15
  fn_part1 (F := F) main_v13 main_v16
-- ==== Kernel.lean ====
abbrev S16x4096x12x64 : Shape := ⟨4, ![16, 4096, 12, 64]⟩
abbrev S16x4096x12x32 : Shape := ⟨4, ![16, 4096, 12, 32]⟩
abbrev S16x4096x32 : Shape := ⟨3, ![16, 4096, 32]⟩
abbrev S16x4096x12x96 : Shape := ⟨4, ![16, 4096, 12, 96]⟩
abbrev S_ : Shape := ⟨0, ![]⟩
abbrev S16x4096x1152 : Shape := ⟨3, ![16, 4096, 1152]⟩
abbrev S16x1152x4096 : Shape := ⟨3, ![16, 1152, 4096]⟩
abbrev S16x4096x1x32 : Shape := ⟨4, ![16, 4096, 1, 32]⟩
abbrev S16x4096x12x128 : Shape := ⟨4, ![16, 4096, 12, 128]⟩
abbrev S16x4096x1536 : Shape := ⟨3, ![16, 4096, 1536]⟩
abbrev S16x4096x768 : Shape := ⟨3, ![16, 4096, 768]⟩
abbrev S16x768x4096 : Shape := ⟨3, ![16, 768, 4096]⟩
abbrev S1x192x4096 : Shape := ⟨3, ![1, 192, 4096]⟩
abbrev S1x4096x256 : Shape := ⟨3, ![1, 4096, 256]⟩
abbrev S1x128x4096 : Shape := ⟨3, ![1, 128, 4096]⟩
abbrev S1x4096x128 : Shape := ⟨3, ![1, 4096, 128]⟩
abbrev S2x2x256x512 : Shape := ⟨4, ![2, 2, 256, 512]⟩
abbrev S2x2x1x512 : Shape := ⟨4, ![2, 2, 1, 512]⟩
abbrev S2x1x512 : Shape := ⟨3, ![2, 1, 512]⟩
abbrev S2x2x80x512 : Shape := ⟨4, ![2, 2, 80, 512]⟩
abbrev S1x96x512 : Shape := ⟨3, ![1, 96, 512]⟩
abbrev S96x512 : Shape := ⟨2, ![96, 512]⟩
abbrev S32x512 : Shape := ⟨2, ![32, 512]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S1x1x256x512 : Shape := ⟨4, ![1, 1, 256, 512]⟩
abbrev S512 : Shape := ⟨1, ![512]⟩
abbrev S1x512 : Shape := ⟨2, ![1, 512]⟩
abbrev S1x1x1x512 : Shape := ⟨4, ![1, 1, 1, 512]⟩
abbrev S2x80x512 : Shape := ⟨3, ![2, 80, 512]⟩
abbrev S1x2x80x512 : Shape := ⟨4, ![1, 2, 80, 512]⟩
abbrev S1x1x512 : Shape := ⟨3, ![1, 1, 512]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩
abbrev S1x1x80x512 : Shape := ⟨4, ![1, 1, 80, 512]⟩
abbrev S80x512 : Shape := ⟨2, ![80, 512]⟩
abbrev S1x1x64x512 : Shape := ⟨4, ![1, 1, 64, 512]⟩
abbrev S64x512 : Shape := ⟨2, ![64, 512]⟩
abbrev S512x128 : Shape := ⟨2, ![512, 128]⟩
abbrev S1x512x128 : Shape := ⟨3, ![1, 512, 128]⟩

abbrev nBuf : Space → Nat
  | .hbm => 29
  | .vmem => 12
  | .smem => 0
  | _ => 0

abbrev bufTy : (tb : Table) → Fin (tcTables nBuf tb) → BufTy
  | .hbm, ⟨0, _⟩ => ⟨S16x4096x12x64, .f32⟩
  | .hbm, ⟨1, _⟩ => ⟨S16x4096x12x32, .f32⟩
  | .hbm, ⟨2, _⟩ => ⟨S16x4096x12x64, .f32⟩
  | .hbm, ⟨3, _⟩ => ⟨S16x4096x32, .f32⟩
  | .hbm, ⟨4, _⟩ => ⟨S16x4096x12x64, .f32⟩
  | .hbm, ⟨5, _⟩ => ⟨S16x4096x12x96, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x4096x12x96, .f32⟩
  | .hbm, ⟨14, _⟩ => ⟨S16x4096x12x96, .f32⟩
  | .hbm, ⟨15, _⟩ => ⟨S16x4096x12x96, .bf16⟩
  | .hbm, ⟨16, _⟩ => ⟨S16x4096x1152, .bf16⟩
  | .hbm, ⟨17, _⟩ => ⟨S16x1152x4096, .bf16⟩
  | .hbm, ⟨18, _⟩ => ⟨S16x4096x1x32, .f32⟩
  | .hbm, ⟨19, _⟩ => ⟨S16x4096x12x32, .f32⟩
  | .hbm, ⟨20, _⟩ => ⟨S_, .f32⟩
  | .hbm, ⟨21, _⟩ => ⟨S16x4096x12x32, .f32⟩
  | .hbm, ⟨22, _⟩ => ⟨S16x4096x12x128, .f32⟩
  | .hbm, ⟨23, _⟩ => ⟨S16x4096x12x128, .bf16⟩
  | .hbm, ⟨24, _⟩ => ⟨S16x4096x1536, .bf16⟩
  | .hbm, ⟨25, _⟩ => ⟨S16x4096x12x64, .bf16⟩
  | .hbm, ⟨26, _⟩ => ⟨S16x4096x768, .bf16⟩
  | .hbm, ⟨27, _⟩ => ⟨S16x768x4096, .bf16⟩
  | .hbm, ⟨28, _⟩ => ⟨S16x4096x768, .bf16⟩
  | .local _ .vmem, ⟨0, _⟩ => ⟨S1x192x4096, .bf16⟩
  | .local _ .vmem, ⟨1, _⟩ => ⟨S1x192x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x2x256x512, .f32⟩
  | .local _ .vmem, ⟨9, _⟩ => ⟨S2x2x1x512, .f32⟩
  | .local _ .vmem, ⟨10, _⟩ => ⟨S2x1x512, .f32⟩
  | .local _ .vmem, ⟨11, _⟩ => ⟨S2x2x80x512, .f32⟩
  | _, _ => ⟨S16x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def k0_mult1 : BitVec 32 :=
  let c0_i32 : BitVec 32 := 0#32
  c0_i32
def k0_mult2 : BitVec 32 :=
  let c0_i32_0 : BitVec 32 := 0#32
  c0_i32_0
def k0_mult3 : BitVec 32 :=
  let c0_i32_14 : BitVec 32 := 0#32
  c0_i32_14
def k0_mult4 : BitVec 32 :=
  let c0_i32_15 : BitVec 32 := 0#32
  c0_i32_15
@[reducible] def k0_t1_loop : Scf.Loop 32 :=
  let c0_i32_33 : BitVec 32 := 0#32
  let c4_i32 : BitVec 32 := 4#32
  let v42 : BitVec 32 := Scalar.addi c0_i32_33 c4_i32
  let c1_i32 : BitVec 32 := 1#32
  ⟨c0_i32_33, v42, c1_i32⟩
def k0_mult5 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32 : BitVec 32 := 512#32
  let v77 : BitVec 32 := Scalar.muli v68 c512_i32
  v77
def k0_mult6 : BitVec 32 :=
  let c256_i32 : BitVec 32 := 256#32
  c256_i32
def k0_off1 (k0_t1 : Fin k0_t1_loop.trips) (c0_i32_54 : BitVec 32) : Fin 3 → Nat :=
  let c0_64 : Index := 0#32
  let c0_65 : Index := 0#32
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let v68 : BitVec 32 := Scalar.addi v67 c0_i32_54
  let c512_i32 : BitVec 32 := 512#32
  let v77 : BitVec 32 := Scalar.muli v68 c512_i32
  let v78 : BitVec 32 := v77
  let v80 : Index := Scalar.indexCast v78
  ![0, 0, v80.toNat]
def k0_mult7 : BitVec 32 :=
  let c0_i32_79 : BitVec 32 := 0#32
  c0_i32_79
def k0_mult8 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_106 : BitVec 32 := 512#32
  let v128 : BitVec 32 := Scalar.muli v68 c512_i32_106
  v128
def k0_mult9 : BitVec 32 :=
  let c256_i32_107 : BitVec 32 := 256#32
  c256_i32_107
def k0_off2 (k0_t1 : Fin k0_t1_loop.trips) (c0_i32_54 : BitVec 32) : Fin 3 → Nat :=
  let c0_108 : Index := 0#32
  let c96_109 : Index := 96#32
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let v68 : BitVec 32 := Scalar.addi v67 c0_i32_54
  let c512_i32_106 : BitVec 32 := 512#32
  let v128 : BitVec 32 := Scalar.muli v68 c512_i32_106
  let v129 : BitVec 32 := v128
  let v131 : Index := Scalar.indexCast v129
  ![0, 96, v131.toNat]
def k0_mult10 : BitVec 32 :=
  let c0_i32_123 : BitVec 32 := 0#32
  c0_i32_123
def k0_mult11 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_150 : BitVec 32 := 512#32
  let v179 : BitVec 32 := Scalar.muli v68 c512_i32_150
  v179
def k0_mult12 : BitVec 32 :=
  let c512_i32_151 : BitVec 32 := 512#32
  c512_i32_151
def k0_mult13 : BitVec 32 :=
  let c256_i32_167 : BitVec 32 := 256#32
  c256_i32_167
def k0_mult14 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_194 : BitVec 32 := 512#32
  let v230 : BitVec 32 := Scalar.muli v68 c512_i32_194
  v230
def k0_mult15 : BitVec 32 :=
  let c512_i32_195 : BitVec 32 := 512#32
  c512_i32_195
def k0_mult16 : BitVec 32 :=
  let c256_i32_211 : BitVec 32 := 256#32
  c256_i32_211
def k0_mult17 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c1_i32_238 : BitVec 32 := 1#32
  let v281 : BitVec 32 := Scalar.subi v68 c1_i32_238
  let c0_i32_239 : BitVec 32 := 0#32
  let v282 : BitVec 32 := Scalar.maxsi v281 c0_i32_239
  let c512_i32_258 : BitVec 32 := 512#32
  let v302 : BitVec 32 := Scalar.muli v282 c512_i32_258
  v302
def k0_off3 (k0_t1 : Fin k0_t1_loop.trips) (c0_i32_54 : BitVec 32) : Fin 3 → Nat :=
  let c0_259 : Index := 0#32
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let v68 : BitVec 32 := Scalar.addi v67 c0_i32_54
  let c1_i32_238 : BitVec 32 := 1#32
  let v281 : BitVec 32 := Scalar.subi v68 c1_i32_238
  let c0_i32_239 : BitVec 32 := 0#32
  let v282 : BitVec 32 := Scalar.maxsi v281 c0_i32_239
  let c512_i32_258 : BitVec 32 := 512#32
  let v302 : BitVec 32 := Scalar.muli v282 c512_i32_258
  let v303 : BitVec 32 := v302
  let v304 : Index := Scalar.indexCast v303
  let c0_260 : Index := 0#32
  ![0, v304.toNat, 0]
def k0_mult18 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_261 : BitVec 32 := 512#32
  let v308 : BitVec 32 := Scalar.muli v68 c512_i32_261
  v308
def k0_mult19 : BitVec 32 :=
  let c768_i32 : BitVec 32 := 768#32
  c768_i32
def k0_mult20 : BitVec 32 :=
  let c512_i32_277 : BitVec 32 := 512#32
  c512_i32_277
def k0_mult21 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_304 : BitVec 32 := 512#32
  let v359 : BitVec 32 := Scalar.muli v68 c512_i32_304
  v359
def k0_mult22 : BitVec 32 :=
  let c768_i32_305 : BitVec 32 := 768#32
  c768_i32_305
def k0_mult23 : BitVec 32 :=
  let c512_i32_321 : BitVec 32 := 512#32
  c512_i32_321
def k0_mult24 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_348 : BitVec 32 := 512#32
  let v410 : BitVec 32 := Scalar.muli v68 c512_i32_348
  v410
def k0_mult25 : BitVec 32 :=
  let c1024_i32 : BitVec 32 := 1024#32
  c1024_i32
def k0_mult26 : BitVec 32 :=
  let c768_i32_364 : BitVec 32 := 768#32
  c768_i32_364
def k0_mult27 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_391 : BitVec 32 := 512#32
  let v461 : BitVec 32 := Scalar.muli v68 c512_i32_391
  v461
def k0_mult28 : BitVec 32 :=
  let c1024_i32_392 : BitVec 32 := 1024#32
  c1024_i32_392
def k0_mult29 : BitVec 32 :=
  let c768_i32_408 : BitVec 32 := 768#32
  c768_i32_408
def k0_mult30 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_435 : BitVec 32 := 512#32
  let v512 : BitVec 32 := Scalar.muli v68 c512_i32_435
  v512
def k0_mult31 : BitVec 32 :=
  let c1280_i32 : BitVec 32 := 1280#32
  c1280_i32
def k0_mult32 : BitVec 32 :=
  let c1024_i32_451 : BitVec 32 := 1024#32
  c1024_i32_451
def k0_mult33 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_478 : BitVec 32 := 512#32
  let v563 : BitVec 32 := Scalar.muli v68 c512_i32_478
  v563
def k0_mult34 : BitVec 32 :=
  let c1280_i32_479 : BitVec 32 := 1280#32
  c1280_i32_479
def k0_mult35 : BitVec 32 :=
  let c1024_i32_495 : BitVec 32 := 1024#32
  c1024_i32_495
def k0_mult36 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_522 : BitVec 32 := 512#32
  let v614 : BitVec 32 := Scalar.muli v68 c512_i32_522
  v614
def k0_mult37 : BitVec 32 :=
  let c1536_i32 : BitVec 32 := 1536#32
  c1536_i32
def k0_mult38 : BitVec 32 :=
  let c1280_i32_538 : BitVec 32 := 1280#32
  c1280_i32_538
def k0_mult39 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_565 : BitVec 32 := 512#32
  let v665 : BitVec 32 := Scalar.muli v68 c512_i32_565
  v665
def k0_mult40 : BitVec 32 :=
  let c1536_i32_566 : BitVec 32 := 1536#32
  c1536_i32_566
def k0_mult41 : BitVec 32 :=
  let c1280_i32_582 : BitVec 32 := 1280#32
  c1280_i32_582
def k0_mult42 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_609 : BitVec 32 := 512#32
  let v716 : BitVec 32 := Scalar.muli v68 c512_i32_609
  v716
def k0_mult43 : BitVec 32 :=
  let c1792_i32 : BitVec 32 := 1792#32
  c1792_i32
def k0_mult44 : BitVec 32 :=
  let c1536_i32_625 : BitVec 32 := 1536#32
  c1536_i32_625
def k0_mult45 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_652 : BitVec 32 := 512#32
  let v767 : BitVec 32 := Scalar.muli v68 c512_i32_652
  v767
def k0_mult46 : BitVec 32 :=
  let c1792_i32_653 : BitVec 32 := 1792#32
  c1792_i32_653
def k0_mult47 : BitVec 32 :=
  let c1536_i32_669 : BitVec 32 := 1536#32
  c1536_i32_669
def k0_mult48 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_696 : BitVec 32 := 512#32
  let v818 : BitVec 32 := Scalar.muli v68 c512_i32_696
  v818
def k0_mult49 : BitVec 32 :=
  let c2048_i32 : BitVec 32 := 2048#32
  c2048_i32
def k0_mult50 : BitVec 32 :=
  let c1792_i32_712 : BitVec 32 := 1792#32
  c1792_i32_712
def k0_mult51 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_739 : BitVec 32 := 512#32
  let v869 : BitVec 32 := Scalar.muli v68 c512_i32_739
  v869
def k0_mult52 : BitVec 32 :=
  let c2048_i32_740 : BitVec 32 := 2048#32
  c2048_i32_740
def k0_mult53 : BitVec 32 :=
  let c1792_i32_756 : BitVec 32 := 1792#32
  c1792_i32_756
def k0_mult54 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_783 : BitVec 32 := 512#32
  let v920 : BitVec 32 := Scalar.muli v68 c512_i32_783
  v920
def k0_mult55 : BitVec 32 :=
  let c2304_i32 : BitVec 32 := 2304#32
  c2304_i32
def k0_mult56 : BitVec 32 :=
  let c2048_i32_799 : BitVec 32 := 2048#32
  c2048_i32_799
def k0_mult57 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_826 : BitVec 32 := 512#32
  let v971 : BitVec 32 := Scalar.muli v68 c512_i32_826
  v971
def k0_mult58 : BitVec 32 :=
  let c2304_i32_827 : BitVec 32 := 2304#32
  c2304_i32_827
def k0_mult59 : BitVec 32 :=
  let c2048_i32_843 : BitVec 32 := 2048#32
  c2048_i32_843
def k0_mult60 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_870 : BitVec 32 := 512#32
  let v1022 : BitVec 32 := Scalar.muli v68 c512_i32_870
  v1022
def k0_mult61 : BitVec 32 :=
  let c2560_i32 : BitVec 32 := 2560#32
  c2560_i32
def k0_mult62 : BitVec 32 :=
  let c2304_i32_886 : BitVec 32 := 2304#32
  c2304_i32_886
def k0_mult63 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_913 : BitVec 32 := 512#32
  let v1073 : BitVec 32 := Scalar.muli v68 c512_i32_913
  v1073
def k0_mult64 : BitVec 32 :=
  let c2560_i32_914 : BitVec 32 := 2560#32
  c2560_i32_914
def k0_mult65 : BitVec 32 :=
  let c2304_i32_930 : BitVec 32 := 2304#32
  c2304_i32_930
def k0_mult66 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_957 : BitVec 32 := 512#32
  let v1124 : BitVec 32 := Scalar.muli v68 c512_i32_957
  v1124
def k0_mult67 : BitVec 32 :=
  let c2816_i32 : BitVec 32 := 2816#32
  c2816_i32
def k0_mult68 : BitVec 32 :=
  let c2560_i32_973 : BitVec 32 := 2560#32
  c2560_i32_973
def k0_mult69 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1000 : BitVec 32 := 512#32
  let v1175 : BitVec 32 := Scalar.muli v68 c512_i32_1000
  v1175
def k0_mult70 : BitVec 32 :=
  let c2816_i32_1001 : BitVec 32 := 2816#32
  c2816_i32_1001
def k0_mult71 : BitVec 32 :=
  let c2560_i32_1017 : BitVec 32 := 2560#32
  c2560_i32_1017
def k0_mult72 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1044 : BitVec 32 := 512#32
  let v1226 : BitVec 32 := Scalar.muli v68 c512_i32_1044
  v1226
def k0_mult73 : BitVec 32 :=
  let c3072_i32 : BitVec 32 := 3072#32
  c3072_i32
def k0_mult74 : BitVec 32 :=
  let c2816_i32_1060 : BitVec 32 := 2816#32
  c2816_i32_1060
def k0_mult75 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1087 : BitVec 32 := 512#32
  let v1277 : BitVec 32 := Scalar.muli v68 c512_i32_1087
  v1277
def k0_mult76 : BitVec 32 :=
  let c3072_i32_1088 : BitVec 32 := 3072#32
  c3072_i32_1088
def k0_mult77 : BitVec 32 :=
  let c2816_i32_1104 : BitVec 32 := 2816#32
  c2816_i32_1104
def k0_mult78 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1131 : BitVec 32 := 512#32
  let v1328 : BitVec 32 := Scalar.muli v68 c512_i32_1131
  v1328
def k0_mult79 : BitVec 32 :=
  let c3328_i32 : BitVec 32 := 3328#32
  c3328_i32
def k0_mult80 : BitVec 32 :=
  let c3072_i32_1147 : BitVec 32 := 3072#32
  c3072_i32_1147
def k0_mult81 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1174 : BitVec 32 := 512#32
  let v1379 : BitVec 32 := Scalar.muli v68 c512_i32_1174
  v1379
def k0_mult82 : BitVec 32 :=
  let c3328_i32_1175 : BitVec 32 := 3328#32
  c3328_i32_1175
def k0_mult83 : BitVec 32 :=
  let c3072_i32_1191 : BitVec 32 := 3072#32
  c3072_i32_1191
def k0_mult84 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1218 : BitVec 32 := 512#32
  let v1430 : BitVec 32 := Scalar.muli v68 c512_i32_1218
  v1430
def k0_mult85 : BitVec 32 :=
  let c3584_i32_1219 : BitVec 32 := 3584#32
  c3584_i32_1219
def k0_mult86 : BitVec 32 :=
  let c3328_i32_1235 : BitVec 32 := 3328#32
  c3328_i32_1235
def k0_mult87 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1262 : BitVec 32 := 512#32
  let v1481 : BitVec 32 := Scalar.muli v68 c512_i32_1262
  v1481
def k0_mult88 : BitVec 32 :=
  let c3584_i32_1263 : BitVec 32 := 3584#32
  c3584_i32_1263
def k0_mult89 : BitVec 32 :=
  let c3328_i32_1279 : BitVec 32 := 3328#32
  c3328_i32_1279
def k0_mult90 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1306 : BitVec 32 := 512#32
  let v1532 : BitVec 32 := Scalar.muli v68 c512_i32_1306
  v1532
def k0_mult91 : BitVec 32 :=
  let c3840_i32 : BitVec 32 := 3840#32
  c3840_i32
def k0_mult92 : BitVec 32 :=
  let c3584_i32_1322 : BitVec 32 := 3584#32
  c3584_i32_1322
def k0_mult93 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c512_i32_1349 : BitVec 32 := 512#32
  let v1583 : BitVec 32 := Scalar.muli v68 c512_i32_1349
  v1583
def k0_mult94 : BitVec 32 :=
  let c3840_i32_1350 : BitVec 32 := 3840#32
  c3840_i32_1350
def k0_mult95 : BitVec 32 :=
  let c3584_i32_1366 : BitVec 32 := 3584#32
  c3584_i32_1366
def k0_mult96 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c1_i32_1393 : BitVec 32 := 1#32
  let v1634 : BitVec 32 := Scalar.addi v68 c1_i32_1393
  let c7_i32 : BitVec 32 := 7#32
  let v1635 : BitVec 32 := Scalar.minsi v1634 c7_i32
  let c512_i32_1394 : BitVec 32 := 512#32
  let v1636 : BitVec 32 := Scalar.muli v1635 c512_i32_1394
  v1636
def k0_mult97 : BitVec 32 :=
  let c0_i32_1395 : BitVec 32 := 0#32
  c0_i32_1395
def k0_off4 (k0_t1 : Fin k0_t1_loop.trips) (c0_i32_54 : BitVec 32) : Fin 3 → Nat :=
  let c0_1396 : Index := 0#32
  let c0_1397 : Index := 0#32
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let v68 : BitVec 32 := Scalar.addi v67 c0_i32_54
  let c1_i32_1393 : BitVec 32 := 1#32
  let v1634 : BitVec 32 := Scalar.addi v68 c1_i32_1393
  let c7_i32 : BitVec 32 := 7#32
  let v1635 : BitVec 32 := Scalar.minsi v1634 c7_i32
  let c512_i32_1394 : BitVec 32 := 512#32
  let v1636 : BitVec 32 := Scalar.muli v1635 c512_i32_1394
  let v1637 : BitVec 32 := v1636
  let v1639 : Index := Scalar.indexCast v1637
  ![0, 0, v1639.toNat]
def k0_mult98 : BitVec 32 :=
  let c3840_i32_1411 : BitVec 32 := 3840#32
  c3840_i32_1411
def k0_mult99 (k0_t1 : Fin k0_t1_loop.trips) : BitVec 32 :=
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let c0_i32_54 : BitVec 32 := 0#32
  let v68 : BitVec 32 := Scalar.addi v67 c0_i32_54
  let c1_i32_1393 : BitVec 32 := 1#32
  let v1634 : BitVec 32 := Scalar.addi v68 c1_i32_1393
  let c7_i32 : BitVec 32 := 7#32
  let v1635 : BitVec 32 := Scalar.minsi v1634 c7_i32
  let c512_i32_1438 : BitVec 32 := 512#32
  let v1687 : BitVec 32 := Scalar.muli v1635 c512_i32_1438
  v1687
def k0_mult100 : BitVec 32 :=
  let c0_i32_1439 : BitVec 32 := 0#32
  c0_i32_1439
def k0_off5 (k0_t1 : Fin k0_t1_loop.trips) (c0_i32_54 : BitVec 32) : Fin 3 → Nat :=
  let c0_1440 : Index := 0#32
  let c96_1441 : Index := 96#32
  let c2_i32 : BitVec 32 := 2#32
  let c0_i32_33 : BitVec 32 := 0#32
  let c1_i32 : BitVec 32 := 1#32
  let arg10 : BitVec 32 := Scf.iv c0_i32_33 c1_i32 k0_t1
  let v67 : BitVec 32 := Scalar.muli c2_i32 arg10
  let v68 : BitVec 32 := Scalar.addi v67 c0_i32_54
  let c1_i32_1393 : BitVec 32 := 1#32
  let v1634 : BitVec 32 := Scalar.addi v68 c1_i32_1393
  let c7_i32 : BitVec 32 := 7#32
  let v1635 : BitVec 32 := Scalar.minsi v1634 c7_i32
  let c512_i32_1438 : BitVec 32 := 512#32
  let v1687 : BitVec 32 := Scalar.muli v1635 c512_i32_1438
  let v1688 : BitVec 32 := v1687
  let v1690 : Index := Scalar.indexCast v1688
  ![0, 96, v1690.toNat]
def k0_mult101 : BitVec 32 :=
  let c3840_i32_1455 : BitVec 32 := 3840#32
  c3840_i32_1455
def k0_mult102 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1493 : BitVec 32 := 512#32
  let v1748 : BitVec 32 := Scalar.muli v1739 c512_i32_1493
  v1748
def k0_mult103 : BitVec 32 :=
  let c256_i32_1494 : BitVec 32 := 256#32
  c256_i32_1494
def k0_mult104 : BitVec 32 :=
  let c0_i32_1510 : BitVec 32 := 0#32
  c0_i32_1510
def k0_mult105 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1537 : BitVec 32 := 512#32
  let v1799 : BitVec 32 := Scalar.muli v1739 c512_i32_1537
  v1799
def k0_mult106 : BitVec 32 :=
  let c256_i32_1538 : BitVec 32 := 256#32
  c256_i32_1538
def k0_mult107 : BitVec 32 :=
  let c0_i32_1554 : BitVec 32 := 0#32
  c0_i32_1554
def k0_mult108 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1581 : BitVec 32 := 512#32
  let v1850 : BitVec 32 := Scalar.muli v1739 c512_i32_1581
  v1850
def k0_mult109 : BitVec 32 :=
  let c512_i32_1582 : BitVec 32 := 512#32
  c512_i32_1582
def k0_mult110 : BitVec 32 :=
  let c256_i32_1598 : BitVec 32 := 256#32
  c256_i32_1598
def k0_mult111 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1625 : BitVec 32 := 512#32
  let v1901 : BitVec 32 := Scalar.muli v1739 c512_i32_1625
  v1901
def k0_mult112 : BitVec 32 :=
  let c512_i32_1626 : BitVec 32 := 512#32
  c512_i32_1626
def k0_mult113 : BitVec 32 :=
  let c256_i32_1642 : BitVec 32 := 256#32
  c256_i32_1642
def k0_mult114 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c1_i32_1669 : BitVec 32 := 1#32
  let v1952 : BitVec 32 := Scalar.subi v1739 c1_i32_1669
  let c0_i32_1670 : BitVec 32 := 0#32
  let v1953 : BitVec 32 := Scalar.maxsi v1952 c0_i32_1670
  let c512_i32_1689 : BitVec 32 := 512#32
  let v1973 : BitVec 32 := Scalar.muli v1953 c512_i32_1689
  v1973
def k0_mult115 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1692 : BitVec 32 := 512#32
  let v1979 : BitVec 32 := Scalar.muli v1739 c512_i32_1692
  v1979
def k0_mult116 : BitVec 32 :=
  let c768_i32_1693 : BitVec 32 := 768#32
  c768_i32_1693
def k0_mult117 : BitVec 32 :=
  let c512_i32_1709 : BitVec 32 := 512#32
  c512_i32_1709
def k0_mult118 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1736 : BitVec 32 := 512#32
  let v2030 : BitVec 32 := Scalar.muli v1739 c512_i32_1736
  v2030
def k0_mult119 : BitVec 32 :=
  let c768_i32_1737 : BitVec 32 := 768#32
  c768_i32_1737
def k0_mult120 : BitVec 32 :=
  let c512_i32_1753 : BitVec 32 := 512#32
  c512_i32_1753
def k0_mult121 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1780 : BitVec 32 := 512#32
  let v2081 : BitVec 32 := Scalar.muli v1739 c512_i32_1780
  v2081
def k0_mult122 : BitVec 32 :=
  let c1024_i32_1781 : BitVec 32 := 1024#32
  c1024_i32_1781
def k0_mult123 : BitVec 32 :=
  let c768_i32_1797 : BitVec 32 := 768#32
  c768_i32_1797
def k0_mult124 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1824 : BitVec 32 := 512#32
  let v2132 : BitVec 32 := Scalar.muli v1739 c512_i32_1824
  v2132
def k0_mult125 : BitVec 32 :=
  let c1024_i32_1825 : BitVec 32 := 1024#32
  c1024_i32_1825
def k0_mult126 : BitVec 32 :=
  let c768_i32_1841 : BitVec 32 := 768#32
  c768_i32_1841
def k0_mult127 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1868 : BitVec 32 := 512#32
  let v2183 : BitVec 32 := Scalar.muli v1739 c512_i32_1868
  v2183
def k0_mult128 : BitVec 32 :=
  let c1280_i32_1869 : BitVec 32 := 1280#32
  c1280_i32_1869
def k0_mult129 : BitVec 32 :=
  let c1024_i32_1885 : BitVec 32 := 1024#32
  c1024_i32_1885
def k0_mult130 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1912 : BitVec 32 := 512#32
  let v2234 : BitVec 32 := Scalar.muli v1739 c512_i32_1912
  v2234
def k0_mult131 : BitVec 32 :=
  let c1280_i32_1913 : BitVec 32 := 1280#32
  c1280_i32_1913
def k0_mult132 : BitVec 32 :=
  let c1024_i32_1929 : BitVec 32 := 1024#32
  c1024_i32_1929
def k0_mult133 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_1956 : BitVec 32 := 512#32
  let v2285 : BitVec 32 := Scalar.muli v1739 c512_i32_1956
  v2285
def k0_mult134 : BitVec 32 :=
  let c1536_i32_1957 : BitVec 32 := 1536#32
  c1536_i32_1957
def k0_mult135 : BitVec 32 :=
  let c1280_i32_1973 : BitVec 32 := 1280#32
  c1280_i32_1973
def k0_mult136 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2000 : BitVec 32 := 512#32
  let v2336 : BitVec 32 := Scalar.muli v1739 c512_i32_2000
  v2336
def k0_mult137 : BitVec 32 :=
  let c1536_i32_2001 : BitVec 32 := 1536#32
  c1536_i32_2001
def k0_mult138 : BitVec 32 :=
  let c1280_i32_2017 : BitVec 32 := 1280#32
  c1280_i32_2017
def k0_mult139 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2044 : BitVec 32 := 512#32
  let v2387 : BitVec 32 := Scalar.muli v1739 c512_i32_2044
  v2387
def k0_mult140 : BitVec 32 :=
  let c1792_i32_2045 : BitVec 32 := 1792#32
  c1792_i32_2045
def k0_mult141 : BitVec 32 :=
  let c1536_i32_2061 : BitVec 32 := 1536#32
  c1536_i32_2061
def k0_mult142 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2088 : BitVec 32 := 512#32
  let v2438 : BitVec 32 := Scalar.muli v1739 c512_i32_2088
  v2438
def k0_mult143 : BitVec 32 :=
  let c1792_i32_2089 : BitVec 32 := 1792#32
  c1792_i32_2089
def k0_mult144 : BitVec 32 :=
  let c1536_i32_2105 : BitVec 32 := 1536#32
  c1536_i32_2105
def k0_mult145 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2132 : BitVec 32 := 512#32
  let v2489 : BitVec 32 := Scalar.muli v1739 c512_i32_2132
  v2489
def k0_mult146 : BitVec 32 :=
  let c2048_i32_2133 : BitVec 32 := 2048#32
  c2048_i32_2133
def k0_mult147 : BitVec 32 :=
  let c1792_i32_2149 : BitVec 32 := 1792#32
  c1792_i32_2149
def k0_mult148 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2176 : BitVec 32 := 512#32
  let v2540 : BitVec 32 := Scalar.muli v1739 c512_i32_2176
  v2540
def k0_mult149 : BitVec 32 :=
  let c2048_i32_2177 : BitVec 32 := 2048#32
  c2048_i32_2177
def k0_mult150 : BitVec 32 :=
  let c1792_i32_2193 : BitVec 32 := 1792#32
  c1792_i32_2193
def k0_mult151 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2220 : BitVec 32 := 512#32
  let v2591 : BitVec 32 := Scalar.muli v1739 c512_i32_2220
  v2591
def k0_mult152 : BitVec 32 :=
  let c2304_i32_2221 : BitVec 32 := 2304#32
  c2304_i32_2221
def k0_mult153 : BitVec 32 :=
  let c2048_i32_2237 : BitVec 32 := 2048#32
  c2048_i32_2237
def k0_mult154 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2264 : BitVec 32 := 512#32
  let v2642 : BitVec 32 := Scalar.muli v1739 c512_i32_2264
  v2642
def k0_mult155 : BitVec 32 :=
  let c2304_i32_2265 : BitVec 32 := 2304#32
  c2304_i32_2265
def k0_mult156 : BitVec 32 :=
  let c2048_i32_2281 : BitVec 32 := 2048#32
  c2048_i32_2281
def k0_mult157 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2308 : BitVec 32 := 512#32
  let v2693 : BitVec 32 := Scalar.muli v1739 c512_i32_2308
  v2693
def k0_mult158 : BitVec 32 :=
  let c2560_i32_2309 : BitVec 32 := 2560#32
  c2560_i32_2309
def k0_mult159 : BitVec 32 :=
  let c2304_i32_2325 : BitVec 32 := 2304#32
  c2304_i32_2325
def k0_mult160 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2352 : BitVec 32 := 512#32
  let v2744 : BitVec 32 := Scalar.muli v1739 c512_i32_2352
  v2744
def k0_mult161 : BitVec 32 :=
  let c2560_i32_2353 : BitVec 32 := 2560#32
  c2560_i32_2353
def k0_mult162 : BitVec 32 :=
  let c2304_i32_2369 : BitVec 32 := 2304#32
  c2304_i32_2369
def k0_mult163 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2396 : BitVec 32 := 512#32
  let v2795 : BitVec 32 := Scalar.muli v1739 c512_i32_2396
  v2795
def k0_mult164 : BitVec 32 :=
  let c2816_i32_2397 : BitVec 32 := 2816#32
  c2816_i32_2397
def k0_mult165 : BitVec 32 :=
  let c2560_i32_2413 : BitVec 32 := 2560#32
  c2560_i32_2413
def k0_mult166 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2440 : BitVec 32 := 512#32
  let v2846 : BitVec 32 := Scalar.muli v1739 c512_i32_2440
  v2846
def k0_mult167 : BitVec 32 :=
  let c2816_i32_2441 : BitVec 32 := 2816#32
  c2816_i32_2441
def k0_mult168 : BitVec 32 :=
  let c2560_i32_2457 : BitVec 32 := 2560#32
  c2560_i32_2457
def k0_mult169 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2484 : BitVec 32 := 512#32
  let v2897 : BitVec 32 := Scalar.muli v1739 c512_i32_2484
  v2897
def k0_mult170 : BitVec 32 :=
  let c3072_i32_2485 : BitVec 32 := 3072#32
  c3072_i32_2485
def k0_mult171 : BitVec 32 :=
  let c2816_i32_2501 : BitVec 32 := 2816#32
  c2816_i32_2501
def k0_mult172 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2528 : BitVec 32 := 512#32
  let v2948 : BitVec 32 := Scalar.muli v1739 c512_i32_2528
  v2948
def k0_mult173 : BitVec 32 :=
  let c3072_i32_2529 : BitVec 32 := 3072#32
  c3072_i32_2529
def k0_mult174 : BitVec 32 :=
  let c2816_i32_2545 : BitVec 32 := 2816#32
  c2816_i32_2545
def k0_mult175 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2572 : BitVec 32 := 512#32
  let v2999 : BitVec 32 := Scalar.muli v1739 c512_i32_2572
  v2999
def k0_mult176 : BitVec 32 :=
  let c3328_i32_2573 : BitVec 32 := 3328#32
  c3328_i32_2573
def k0_mult177 : BitVec 32 :=
  let c3072_i32_2589 : BitVec 32 := 3072#32
  c3072_i32_2589
def k0_mult178 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2616 : BitVec 32 := 512#32
  let v3050 : BitVec 32 := Scalar.muli v1739 c512_i32_2616
  v3050
def k0_mult179 : BitVec 32 :=
  let c3328_i32_2617 : BitVec 32 := 3328#32
  c3328_i32_2617
def k0_mult180 : BitVec 32 :=
  let c3072_i32_2633 : BitVec 32 := 3072#32
  c3072_i32_2633
def k0_mult181 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2660 : BitVec 32 := 512#32
  let v3101 : BitVec 32 := Scalar.muli v1739 c512_i32_2660
  v3101
def k0_mult182 : BitVec 32 :=
  let c3584_i32_2661 : BitVec 32 := 3584#32
  c3584_i32_2661
def k0_mult183 : BitVec 32 :=
  let c3328_i32_2677 : BitVec 32 := 3328#32
  c3328_i32_2677
def k0_mult184 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2704 : BitVec 32 := 512#32
  let v3152 : BitVec 32 := Scalar.muli v1739 c512_i32_2704
  v3152
def k0_mult185 : BitVec 32 :=
  let c3584_i32_2705 : BitVec 32 := 3584#32
  c3584_i32_2705
def k0_mult186 : BitVec 32 :=
  let c3328_i32_2721 : BitVec 32 := 3328#32
  c3328_i32_2721
def k0_mult187 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2748 : BitVec 32 := 512#32
  let v3203 : BitVec 32 := Scalar.muli v1739 c512_i32_2748
  v3203
def k0_mult188 : BitVec 32 :=
  let c3840_i32_2749 : BitVec 32 := 3840#32
  c3840_i32_2749
def k0_mult189 : BitVec 32 :=
  let c3584_i32_2765 : BitVec 32 := 3584#32
  c3584_i32_2765
def k0_mult190 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c512_i32_2792 : BitVec 32 := 512#32
  let v3254 : BitVec 32 := Scalar.muli v1739 c512_i32_2792
  v3254
def k0_mult191 : BitVec 32 :=
  let c3840_i32_2793 : BitVec 32 := 3840#32
  c3840_i32_2793
def k0_mult192 : BitVec 32 :=
  let c3584_i32_2809 : BitVec 32 := 3584#32
  c3584_i32_2809
def k0_mult193 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c1_i32_2836 : BitVec 32 := 1#32
  let v3305 : BitVec 32 := Scalar.addi v1739 c1_i32_2836
  let c7_i32_2837 : BitVec 32 := 7#32
  let v3306 : BitVec 32 := Scalar.minsi v3305 c7_i32_2837
  let c512_i32_2838 : BitVec 32 := 512#32
  let v3307 : BitVec 32 := Scalar.muli v3306 c512_i32_2838
  v3307
def k0_mult194 : BitVec 32 :=
  let c0_i32_2839 : BitVec 32 := 0#32
  c0_i32_2839
def k0_mult195 : BitVec 32 :=
  let c3840_i32_2855 : BitVec 32 := 3840#32
  c3840_i32_2855
def k0_mult196 (k0_t1 : Fin k0_t1_loop.trips) : BitVec 32 :=
  let c2_i32_1482 : BitVec 32 := 2#32
  let c0_i32_33 : BitVec 32 := 0#32
  let c1_i32 : BitVec 32 := 1#32
  let arg10 : BitVec 32 := Scf.iv c0_i32_33 c1_i32 k0_t1
  let v1738 : BitVec 32 := Scalar.muli c2_i32_1482 arg10
  let c1_i32_1483 : BitVec 32 := 1#32
  let v1739 : BitVec 32 := Scalar.addi v1738 c1_i32_1483
  let c1_i32_2836 : BitVec 32 := 1#32
  let v3305 : BitVec 32 := Scalar.addi v1739 c1_i32_2836
  let c7_i32_2837 : BitVec 32 := 7#32
  let v3306 : BitVec 32 := Scalar.minsi v3305 c7_i32_2837
  let c512_i32_2882 : BitVec 32 := 512#32
  let v3358 : BitVec 32 := Scalar.muli v3306 c512_i32_2882
  v3358
def k0_mult197 : BitVec 32 :=
  let c0_i32_2883 : BitVec 32 := 0#32
  c0_i32_2883
def k0_mult198 : BitVec 32 :=
  let c3840_i32_2899 : BitVec 32 := 3840#32
  c3840_i32_2899
def k0_mult199 : BitVec 32 :=
  let c3584_i32 : BitVec 32 := 3584#32
  c3584_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x4096x12x64 : Shape := ⟨4, ![16, 4096, 12, 64]⟩
abbrev S16x4096x12x32 : Shape := ⟨4, ![16, 4096, 12, 32]⟩
abbrev S16x4096x32 : Shape := ⟨3, ![16, 4096, 32]⟩
abbrev S_ : Shape := ⟨0, ![]⟩
abbrev S16x12x4096x4096 : Shape := ⟨4, ![16, 12, 4096, 4096]⟩
abbrev S16x4096x4096x12 : Shape := ⟨4, ![16, 4096, 4096, 12]⟩
abbrev S16x12x4096 : Shape := ⟨3, ![16, 12, 4096]⟩
abbrev S16x12x4096x1 : Shape := ⟨4, ![16, 12, 4096, 1]⟩
abbrev S16x12x64x4096 : Shape := ⟨4, ![16, 12, 64, 4096]⟩
abbrev S16x4096x768 : Shape := ⟨3, ![16, 4096, 768]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x12x64, .f32⟩
  | .hbm, ⟨1, _⟩ => ⟨S16x4096x12x32, .f32⟩
  | .hbm, ⟨2, _⟩ => ⟨S16x4096x12x64, .f32⟩
  | .hbm, ⟨3, _⟩ => ⟨S16x4096x32, .f32⟩
  | .hbm, ⟨4, _⟩ => ⟨S16x4096x12x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x12x4096x4096, .f32⟩
  | .hbm, ⟨10, _⟩ => ⟨S16x4096x4096x12, .f32⟩
  | .hbm, ⟨11, _⟩ => ⟨S16x12x4096x4096, .f32⟩
  | .hbm, ⟨12, _⟩ => ⟨S16x12x4096x4096, .f32⟩
  | .hbm, ⟨13, _⟩ => ⟨S16x12x4096x4096, .f32⟩
  | .hbm, ⟨14, _⟩ => ⟨S16x12x4096x4096, .f32⟩
  | .hbm, ⟨15, _⟩ => ⟨S_, .f32⟩
  | .hbm, ⟨16, _⟩ => ⟨S16x12x4096, .f32⟩
  | .hbm, ⟨17, _⟩ => ⟨S_, .f32⟩
  | .hbm, ⟨18, _⟩ => ⟨S16x12x4096, .f32⟩
  | .hbm, ⟨19, _⟩ => ⟨S16x12x4096, .f32⟩
  | .hbm, ⟨20, _⟩ => ⟨S16x12x4096x1, .f32⟩
  | .hbm, ⟨21, _⟩ => ⟨S16x12x4096x4096, .f32⟩
  | .hbm, ⟨22, _⟩ => ⟨S16x12x4096x4096, .f32⟩
  | .hbm, ⟨23, _⟩ => ⟨S16x12x4096x4096, .f32⟩
  | .hbm, ⟨24, _⟩ => ⟨S_, .f32⟩
  | .hbm, ⟨25, _⟩ => ⟨S16x12x4096, .f32⟩
  | .hbm, ⟨26, _⟩ => ⟨S16x12x4096x1, .f32⟩
  | .hbm, ⟨27, _⟩ => ⟨S16x12x4096x4096, .f32⟩
  | .hbm, ⟨28, _⟩ => ⟨S16x12x4096x4096, .f32⟩
  | .hbm, ⟨29, _⟩ => ⟨S16x12x64x4096, .f32⟩
  | .hbm, ⟨30, _⟩ => ⟨S16x4096x12x64, .f32⟩
  | .hbm, ⟨31, _⟩ => ⟨S16x4096x768, .f32⟩
  | .hbm, ⟨32, _⟩ => ⟨S16x4096x768, .bf16⟩
  | _, _ => ⟨S16x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Final.lean ====
abbrev S16x4096x1024 : Shape := ⟨3, ![16, 4096, 1024]⟩
abbrev S16x4096x768 : Shape := ⟨3, ![16, 4096, 768]⟩
abbrev S16x4096x256 : Shape := ⟨3, ![16, 4096, 256]⟩
abbrev S16x256x4x64 : Shape := ⟨4, ![16, 256, 4, 64]⟩
abbrev S1024x1024 : Shape := ⟨2, ![1024, 1024]⟩
abbrev S1024 : Shape := ⟨1, ![1024]⟩
abbrev S_ : Shape := ⟨0, ![]⟩
abbrev S16x4x64x256 : Shape := ⟨4, ![16, 4, 64, 256]⟩
abbrev S16x4x64x4x256 : Shape := ⟨5, ![16, 4, 64, 4, 256]⟩
abbrev S1x16x256x1024 : Shape := ⟨4, ![1, 16, 256, 1024]⟩
abbrev S16x4x256x64 : Shape := ⟨4, ![16, 4, 256, 64]⟩
abbrev S16x4x256x4x64 : Shape := ⟨5, ![16, 4, 256, 4, 64]⟩
abbrev S1x16x1024x256 : Shape := ⟨4, ![1, 16, 1024, 256]⟩
abbrev S1x1024 : Shape := ⟨2, ![1, 1024]⟩
abbrev S1x1024x1024 : Shape := ⟨3, ![1, 1024, 1024]⟩
abbrev S1x1024x768 : Shape := ⟨3, ![1, 1024, 768]⟩
abbrev S1x1024x256 : Shape := ⟨3, ![1, 1024, 256]⟩
abbrev S1x1x256x1024 : Shape := ⟨4, ![1, 1, 256, 1024]⟩
abbrev S1x1x1024x256 : Shape := ⟨4, ![1, 1, 1024, 256]⟩
abbrev S1x256x256 : Shape := ⟨3, ![1, 256, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1x256x1024 : Shape := ⟨3, ![1, 256, 1024]⟩
abbrev S1x256x768 : Shape := ⟨3, ![1, 256, 768]⟩
abbrev S256x768 : Shape := ⟨2, ![256, 768]⟩

abbrev nBuf : Space → Nat
  | .hbm => 37
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S16x4096x768, .f32⟩
  | .hbm, ⟨2, _⟩ => ⟨S16x4096x256, .f32⟩
  | .hbm, ⟨3, _⟩ => ⟨S16x256x4x64, .f32⟩
  | .hbm, ⟨4, _⟩ => ⟨S16x256x4x64, .f32⟩
  | .hbm, ⟨5, _⟩ => ⟨S16x4096x1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S16x256x4x64, .f32⟩
  | .hbm, ⟨10, _⟩ => ⟨S16x256x4x64, .f32⟩
  | .hbm, ⟨11, _⟩ => ⟨S16x4x64x256, .f32⟩
  | .hbm, ⟨12, _⟩ => ⟨S16x4x64x4x256, .f32⟩
  | .hbm, ⟨13, _⟩ => ⟨S16x4x64x4x256, .i32⟩
  | .hbm, ⟨14, _⟩ => ⟨S16x4x64x4x256, .i32⟩
  | .hbm, ⟨15, _⟩ => ⟨S16x4x64x4x256, .i1⟩
  | .hbm, ⟨16, _⟩ => ⟨S_, .f32⟩
  | .hbm, ⟨17, _⟩ => ⟨S16x4x64x4x256, .f32⟩
  | .hbm, ⟨18, _⟩ => ⟨S16x4x64x4x256, .f32⟩
  | .hbm, ⟨19, _⟩ => ⟨S16x4x64x4x256, .bf16⟩
  | .hbm, ⟨20, _⟩ => ⟨S1x16x256x1024, .bf16⟩
  | .hbm, ⟨21, _⟩ => ⟨S16x4x256x64, .f32⟩
  | .hbm, ⟨22, _⟩ => ⟨S16x4x256x4x64, .f32⟩
  | .hbm, ⟨23, _⟩ => ⟨S16x4x256x4x64, .i32⟩
  | .hbm, ⟨24, _⟩ => ⟨S16x4x256x4x64, .i32⟩
  | .hbm, ⟨25, _⟩ => ⟨S16x4x256x4x64, .i1⟩
  | .hbm, ⟨26, _⟩ => ⟨S_, .f32⟩
  | .hbm, ⟨27, _⟩ => ⟨S16x4x256x4x64, .f32⟩
  | .hbm, ⟨28, _⟩ => ⟨S16x4x256x4x64, .f32⟩
  | .hbm, ⟨29, _⟩ => ⟨S16x4x256x4x64, .bf16⟩
  | .hbm, ⟨30, _⟩ => ⟨S1x16x1024x256, .bf16⟩
  | .hbm, ⟨31, _⟩ => ⟨S16x4096x768, .bf16⟩
  | .hbm, ⟨32, _⟩ => ⟨S16x4096x256, .bf16⟩
  | .hbm, ⟨33, _⟩ => ⟨S16x4096x1024, .bf16⟩
  | .hbm, ⟨34, _⟩ => ⟨S1024x1024, .bf16⟩
  | .hbm, ⟨35, _⟩ => ⟨S1x1024, .f32⟩
  | .hbm, ⟨36, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1024x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FinalReferenceIdeal.lean ====
abbrev S16x4096x1024 : Shape := ⟨3, ![16, 4096, 1024]⟩
abbrev S16x4096x768 : Shape := ⟨3, ![16, 4096, 768]⟩
abbrev S16x4096x256 : Shape := ⟨3, ![16, 4096, 256]⟩
abbrev S16x256x4x64 : Shape := ⟨4, ![16, 256, 4, 64]⟩
abbrev S1024x1024 : Shape := ⟨2, ![1024, 1024]⟩
abbrev S1024 : Shape := ⟨1, ![1024]⟩
abbrev S16x4096x4x64 : Shape := ⟨4, ![16, 4096, 4, 64]⟩
abbrev S16x4x4096x256 : Shape := ⟨4, ![16, 4, 4096, 256]⟩
abbrev S_ : Shape := ⟨0, ![]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x768, .f32⟩
  | .hbm, ⟨2, _⟩ => ⟨S16x4096x256, .f32⟩
  | .hbm, ⟨3, _⟩ => ⟨S16x256x4x64, .f32⟩
  | .hbm, ⟨4, _⟩ => ⟨S16x256x4x64, .f32⟩
  | .hbm, ⟨5, _⟩ => ⟨S16x4096x1024, .f32⟩
  | .hbm, ⟨6, _⟩ => ⟨S1024x1024, .f32⟩
  | .hbm, ⟨7, _⟩ => ⟨S1024, .f32⟩
  | .hbm, ⟨8, _⟩ => ⟨S16x4096x4x64, .f32⟩
  | .hbm, ⟨9, _⟩ => ⟨S16x4x4096x256, .f32⟩
  | .hbm, ⟨10, _⟩ => ⟨S_, .f32⟩
  | .hbm, ⟨11, _⟩ => ⟨S16x4x4096x256, .f32⟩
  | .hbm, ⟨12, _⟩ => ⟨S16x4x4096x256, .f32⟩
  | .hbm, ⟨13, _⟩ => ⟨S_, .f32⟩
  | .hbm, ⟨14, _⟩ => ⟨S16x4x4096, .f32⟩
  | .hbm, ⟨15, _⟩ => ⟨S_, .f32⟩
  | .hbm, ⟨16, _⟩ => ⟨S16x4x4096, .f32⟩
  | .hbm, ⟨17, _⟩ => ⟨S16x4x4096, .f32⟩
  | .hbm, ⟨18, _⟩ => ⟨S16x4x4096x1, .f32⟩
  | .hbm, ⟨19, _⟩ => ⟨S16x4x4096x256, .f32⟩
  | .hbm, ⟨20, _⟩ => ⟨S16x4x4096x256, .f32⟩
  | .hbm, ⟨21, _⟩ => ⟨S16x4x4096x256, .f32⟩
  | .hbm, ⟨22, _⟩ => ⟨S_, .f32⟩
  | .hbm, ⟨23, _⟩ => ⟨S16x4x4096, .f32⟩
  | .hbm, ⟨24, _⟩ => ⟨S16x4x4096x1, .f32⟩
  | .hbm, ⟨25, _⟩ => ⟨S16x4x4096x256, .f32⟩
  | .hbm, ⟨26, _⟩ => ⟨S16x4x4096x256, .f32⟩
  | .hbm, ⟨27, _⟩ => ⟨S16x4x64x4096, .f32⟩
  | .hbm, ⟨28, _⟩ => ⟨S16x4096x4x64, .f32⟩
  | .hbm, ⟨29, _⟩ => ⟨S16x4096x256, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096, .f32⟩
  | .hbm, ⟨46, _⟩ => ⟨S16x4096x1, .f32⟩
  | .hbm, ⟨47, _⟩ => ⟨S_, .f32⟩
  | .hbm, ⟨48, _⟩ => ⟨S16x4096x1, .f32⟩
  | .hbm, ⟨49, _⟩ => ⟨S16x4096x1, .f32⟩
  | .hbm, ⟨50, _⟩ => ⟨S_, .f32⟩
  | .hbm, ⟨51, _⟩ => ⟨S16x4096x1, .f32⟩
  | .hbm, ⟨52, _⟩ => ⟨S16x4096x1, .f32⟩
  | .hbm, ⟨53, _⟩ => ⟨S16x4096x1, .f32⟩
  | .hbm, ⟨54, _⟩ => ⟨S16x4096x1024, .f32⟩
  | .hbm, ⟨55, _⟩ => ⟨S16x4096x1024, .f32⟩
  | .hbm, ⟨56, _⟩ => ⟨S1x1x1024, .f32⟩
  | .hbm, ⟨57, _⟩ => ⟨S16x4096x1024, .f32⟩
  | .hbm, ⟨58, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Inner.lean ====
abbrev S16x4096x1024 : Shape := ⟨3, ![16, 4096, 1024]⟩
abbrev S1024 : Shape := ⟨1, ![1024]⟩
abbrev S1024x768 : Shape := ⟨2, ![1024, 768]⟩
abbrev S1024x2048 : Shape := ⟨2, ![1024, 2048]⟩
abbrev S1024x1280 : Shape := ⟨2, ![1024, 1280]⟩
abbrev S1024x2816 : Shape := ⟨2, ![1024, 2816]⟩
abbrev S1x1024 : Shape := ⟨2, ![1, 1024]⟩
abbrev S16x4096x768 : Shape := ⟨3, ![16, 4096, 768]⟩
abbrev S16x4096x256 : Shape := ⟨3, ![16, 4096, 256]⟩
abbrev S1x1024x1024 : Shape := ⟨3, ![1, 1024, 1024]⟩
abbrev S1x1024x768 : Shape := ⟨3, ![1, 1024, 768]⟩
abbrev S1x1024x256 : Shape := ⟨3, ![1, 1024, 256]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 13
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x768, .f32⟩
  | .hbm, ⟨3, _⟩ => ⟨S1024x768, .f32⟩
  | .hbm, ⟨4, _⟩ => ⟨S1024x2048, .f32⟩
  | .hbm, ⟨5, _⟩ => ⟨S1024x1280, .f32⟩
  | .hbm, ⟨6, _⟩ => ⟨S1024x2816, .f32⟩
  | .hbm, ⟨7, _⟩ => ⟨S1024x2816, .bf16⟩
  | .hbm, ⟨8, _⟩ => ⟨S1x1024, .f32⟩
  | .hbm, ⟨9, _⟩ => ⟨S16x4096x768, .bf16⟩
  | .hbm, ⟨10, _⟩ => ⟨S16x4096x768, .bf16⟩
  | .hbm, ⟨11, _⟩ => ⟨S16x4096x256, .bf16⟩
  | .hbm, ⟨12, _⟩ => ⟨S16x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2816, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x1024, .bf16⟩
  | .local _ .vmem, ⟨11, _⟩ => ⟨S1x1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InnerReferenceIdeal.lean ====
abbrev S16x4096x1024 : Shape := ⟨3, ![16, 4096, 1024]⟩
abbrev S1024 : Shape := ⟨1, ![1024]⟩
abbrev S1024x768 : Shape := ⟨2, ![1024, 768]⟩
abbrev S1024x2048 : Shape := ⟨2, ![1024, 2048]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2048 : Shape := ⟨3, ![16, 4096, 2048]⟩
abbrev S16x4096x256 : Shape := ⟨3, ![16, 4096, 256]⟩
abbrev S16x4096x768 : Shape := ⟨3, ![16, 4096, 768]⟩

abbrev nBuf : Space → Nat
  | .hbm => 30
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x768, .f32⟩
  | .hbm, ⟨3, _⟩ => ⟨S1024x768, .f32⟩
  | .hbm, ⟨4, _⟩ => ⟨S1024x2048, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x2048, .f32⟩
  | .hbm, ⟨22, _⟩ => ⟨S16x4096x256, .f32⟩
  | .hbm, ⟨23, _⟩ => ⟨S16x4096x1024, .f32⟩
  | .hbm, ⟨24, _⟩ => ⟨S16x4096x768, .f32⟩
  | .hbm, ⟨25, _⟩ => ⟨S16x4096x768, .bf16⟩
  | .hbm, ⟨26, _⟩ => ⟨S16x4096x768, .f32⟩
  | .hbm, ⟨27, _⟩ => ⟨S16x4096x768, .bf16⟩
  | .hbm, ⟨28, _⟩ => ⟨S16x4096x256, .bf16⟩
  | .hbm, ⟨29, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Steps.lean ====
/-
  The attention kernel's body, written as the six steps it repeats: the scores of a chunk of keys, the folding of a chunk
  into the running maximum and the accumulator, and the writing of a finished tile of queries. The printed body is the same
  sequence of loads and stores, cut elsewhere (`trip_eq`).
-/
module

public import proofs.«01_k».proof.Proof.Gen.KernelIdeal.Skeleton

@[expose] public section

noncomputable section

namespace Cert.KernelIdeal.Steps

open Cert.KernelIdeal Cert.KernelIdeal.Gen
open Idealize.ShloMosaic Idealize.ShloMosaic.TcCoe Idealize.SL.Sem

variable {F : FTy → Type} [FloatOps F]

/-! ## What is stored -/

/-- A chunk's scores, keys by queries: the keys' block times the queries' block, 32 rows of zeros under it. -/
def scoreMat (q : Vec F S1x96x512 .bf16) (k : Vec F S1x256x128 .bf16) : FVec F S256x512 .f32 := k0_pay4 q k
def scoreOut (q : Vec F S1x96x512 .bf16) (k : Vec F S1x256x128 .bf16) : FVec F S1x1x256x512 .f32 := k0_pay5 q k
/-- Their maximum over the keys. -/
def maxOut (q : Vec F S1x96x512 .bf16) (k : Vec F S1x256x128 .bf16) : FVec F S1x1x1x512 .f32 := k0_pay7 (k0_pay6 q k)
/-- The running maximum after a chunk. -/
def runMax (mo : Vec F S1x1x512 .f32) (mx : Vec F S1x1x1x512 .f32) : FVec F S1x1x512 .f32 := k0_pay10 mo mx
/-- The accumulator after a chunk. -/
def accOut (mo : Vec F S1x1x512 .f32) (mx : Vec F S1x1x1x512 .f32) (s : Vec F S1x1x256x512 .f32) (v : Vec F S1x64x256 .bf16)
    (a : Vec F S1x1x80x512 .f32) : FVec F S1x1x80x512 .f32 := k0_pay12 (k0_pay11 mo mx s v a)
/-- A finished tile of queries: each head's values over its sums, the heads side by side, a row a query. -/
def tileOut (a0 : Vec F S1x1x64x512 .f32) (l0 : Vec F S1x1x1x512 .f32) (a1 : Vec F S1x1x64x512 .f32) (l1 : Vec F S1x1x1x512 .f32) :
    FVec F S1x512x128 .bf16 := k0_pay1 (k0_pay590 a0 l0) (k0_pay591 a1) l1

/-! ## Where -/

theorem inK {r c : ℕ} (hr : r ≤ 3840) (hc : c ≤ 128) : ∀ a, (![0, r, c] : Fin 3 → ℕ) a + S1x256x128.size a ≤ S1x4096x256.size a := by
  intro a; fin_cases a
  · exact le_refl 1
  · exact Nat.add_le_add_right hr 256
  · exact Nat.add_le_add_right hc 128
theorem inS {s h : ℕ} (hs : s ≤ 1) (hh : h ≤ 1) : ∀ a, (![s, h, 0, 0] : Fin 4 → ℕ) a + S1x1x256x512.size a ≤ S2x2x256x512.size a := by
  intro a; fin_cases a
  · exact Nat.add_le_add_right hs 1
  · exact Nat.add_le_add_right hh 1
  · exact le_refl 256
  · exact le_refl 512
theorem inM {s h : ℕ} (hs : s ≤ 1) (hh : h ≤ 1) : ∀ a, (![s, h, 0, 0] : Fin 4 → ℕ) a + S1x1x1x512.size a ≤ S2x2x1x512.size a := by
  intro a; fin_cases a
  · exact Nat.add_le_add_right hs 1
  · exact Nat.add_le_add_right hh 1
  · exact le_refl 1
  · exact le_refl 512
theorem inR {h : ℕ} (hh : h ≤ 1) : ∀ a, (![h, 0, 0] : Fin 3 → ℕ) a + S1x1x512.size a ≤ S2x1x512.size a := by
  intro a; fin_cases a
  · exact Nat.add_le_add_right hh 1
  · exact le_refl 1
  · exact le_refl 512
theorem inV {r c : ℕ} (hr : r ≤ 64) (hc : c ≤ 3840) : ∀ a, (![0, r, c] : Fin 3 → ℕ) a + S1x64x256.size a ≤ S1x128x4096.size a := by
  intro a; fin_cases a
  · exact le_refl 1
  · exact Nat.add_le_add_right hr 64
  · exact Nat.add_le_add_right hc 256
theorem inA {p h : ℕ} (hp : p ≤ 1) (hh : h ≤ 1) : ∀ a, (![p, h, 0, 0] : Fin 4 → ℕ) a + S1x1x80x512.size a ≤ S2x2x80x512.size a := by
  intro a; fin_cases a
  · exact Nat.add_le_add_right hp 1
  · exact Nat.add_le_add_right hh 1
  · exact le_refl 80
  · exact le_refl 512
theorem inA0 {p : ℕ} (hp : p ≤ 1) : ∀ a, (![p, 0, 0, 0] : Fin 4 → ℕ) a + S1x2x80x512.size a ≤ S2x2x80x512.size a := by
  intro a; fin_cases a
  · exact Nat.add_le_add_right hp 1
  · exact le_refl 2
  · exact le_refl 80
  · exact le_refl 512
theorem inAv {p h : ℕ} (hp : p ≤ 1) (hh : h ≤ 1) : ∀ a, (![p, h, 0, 0] : Fin 4 → ℕ) a + S1x1x64x512.size a ≤ S2x2x80x512.size a := by
  intro a; fin_cases a
  · exact Nat.add_le_add_right hp 1
  · exact Nat.add_le_add_right hh 1
  · exact (by decide : 64 ≤ 80)
  · exact le_refl 512
theorem inAl {p h : ℕ} (hp : p ≤ 1) (hh : h ≤ 1) : ∀ a, (![p, h, 64, 0] : Fin 4 → ℕ) a + S1x1x1x512.size a ≤ S2x2x80x512.size a := by
  intro a; fin_cases a
  · exact Nat.add_le_add_right hp 1
  · exact Nat.add_le_add_right hh 1
  · exact (by decide : 65 ≤ 80)
  · exact le_refl 512

/-- Where a query tile's rows of a head lie in the transposed queries. -/
abbrev InQ (qo : Fin 3 → ℕ) : Prop := ∀ a, qo a + S1x96x512.size a ≤ S1x192x4096.size a
/-- Where a tile lies in the result. -/
abbrev InO (oo : Fin 3 → ℕ) : Prop := ∀ a, oo a + S1x512x128.size a ≤ S1x4096x128.size a

/-! ## The steps -/

/-- The scores of the keys from row `kr` on (the head's lanes from `kc` on) against the queries at `qo`, into slot `sl`. -/
def scoresP (arg2 : Memref sig .tc .vmem S1x192x4096 .bf16) (arg3 : Memref sig .tc .vmem S1x4096x256 .bf16)
    (arg6 : Memref sig .tc .vmem S2x2x256x512 .f32) (arg7 : Memref sig .tc .vmem S2x2x1x512 .f32)
    (qo : Fin 3 → ℕ) (hq : InQ qo) (kr kc sl h : ℕ) (hkr : kr ≤ 3840) (hkc : kc ≤ 128) (hsl : sl ≤ 1) (hh : h ≤ 1) :
    Prog (TpuEff nD τ sig (Elt F) Λ₀ .tc) PUnit := do
  let q : Vec F S1x96x512 .bf16 ← Prog.lift (.load arg2 (Rect.unit (s := S1x192x4096) qo S1x96x512.size hq).toLoadRect (View.loadsAt_vmem h_S1x96x512))
  let k : Vec F S1x256x128 .bf16 ← Prog.lift (.load arg3 (Rect.unit (s := S1x4096x256) ![0, kr, kc] S1x256x128.size (inK hkr hkc)).toLoadRect (View.loadsAt_vmem h_S1x256x128))
  let _s : Vec F S1x1x256x512 .f32 ← Prog.lift (.load arg6 (Rect.unit (s := S2x2x256x512) ![sl, h, 0, 0] S1x1x256x512.size (inS hsl hh)).toLoadRect (View.loadsAt_vmem h_S1x1x256x512))
  Prog.lift (.store arg6 (Rect.unit (s := S2x2x256x512) ![sl, h, 0, 0] S1x1x256x512.size (inS hsl hh)) (scoreOut q k) Finset.univ (View.stores_vmem_bits_univ h_S1x1x256x512 rfl) (.inl rfl))
  let _x : Vec F S1x1x1x512 .f32 ← Prog.lift (.load arg7 (Rect.unit (s := S2x2x1x512) ![sl, h, 0, 0] S1x1x1x512.size (inM hsl hh)).toLoadRect (View.loadsAt_vmem h_S1x1x1x512))
  Prog.lift (.store arg7 (Rect.unit (s := S2x2x1x512) ![sl, h, 0, 0] S1x1x1x512.size (inM hsl hh)) (maxOut q k) Finset.univ (View.stores_vmem_bits_univ h_S1x1x1x512 rfl) (.inl rfl))

/-- Slot `sl`'s scores of head `h` folded, with the values from column `kc` on, into the running maximum and the
    accumulator of parity `p`. -/
def consumeP (arg4 : Memref sig .tc .vmem S1x128x4096 .bf16)
    (arg6 : Memref sig .tc .vmem S2x2x256x512 .f32) (arg7 : Memref sig .tc .vmem S2x2x1x512 .f32)
    (arg8 : Memref sig .tc .vmem S2x1x512 .f32) (arg9 : Memref sig .tc .vmem S2x2x80x512 .f32)
    (vr kc sl h p : ℕ) (hvr : vr ≤ 64) (hkc : kc ≤ 3840) (hsl : sl ≤ 1) (hh : h ≤ 1) (hp : p ≤ 1) :
    Prog (TpuEff nD τ sig (Elt F) Λ₀ .tc) PUnit := do
  let mo : Vec F S1x1x512 .f32 ← Prog.lift (.load arg8 (Rect.unit (s := S2x1x512) ![h, 0, 0] S1x1x512.size (inR hh)).toLoadRect (View.loadsAt_vmem h_S1x1x512))
  let mx : Vec F S1x1x1x512 .f32 ← Prog.lift (.load arg7 (Rect.unit (s := S2x2x1x512) ![sl, h, 0, 0] S1x1x1x512.size (inM hsl hh)).toLoadRect (View.loadsAt_vmem h_S1x1x1x512))
  let s : Vec F S1x1x256x512 .f32 ← Prog.lift (.load arg6 (Rect.unit (s := S2x2x256x512) ![sl, h, 0, 0] S1x1x256x512.size (inS hsl hh)).toLoadRect (View.loadsAt_vmem h_S1x1x256x512))
  let _m : Vec F S1x1x512 .f32 ← Prog.lift (.load arg8 (Rect.unit (s := S2x1x512) ![h, 0, 0] S1x1x512.size (inR hh)).toLoadRect (View.loadsAt_vmem h_S1x1x512))
  Prog.lift (.store arg8 (Rect.unit (s := S2x1x512) ![h, 0, 0] S1x1x512.size (inR hh)) (runMax mo mx) Finset.univ (View.stores_vmem_bits_univ h_S1x1x512 rfl) (.inl rfl))
  let v : Vec F S1x64x256 .bf16 ← Prog.lift (.load arg4 (Rect.unit (s := S1x128x4096) ![0, vr, kc] S1x64x256.size (inV hvr hkc)).toLoadRect (View.loadsAt_vmem h_S1x64x256))
  let a : Vec F S1x1x80x512 .f32 ← Prog.lift (.load arg9 (Rect.unit (s := S2x2x80x512) ![p, h, 0, 0] S1x1x80x512.size (inA hp hh)).toLoadRect (View.loadsAt_vmem h_S1x1x80x512))
  let _a : Vec F S1x1x80x512 .f32 ← Prog.lift (.load arg9 (Rect.unit (s := S2x2x80x512) ![p, h, 0, 0] S1x1x80x512.size (inA hp hh)).toLoadRect (View.loadsAt_vmem h_S1x1x80x512))
  Prog.lift (.store arg9 (Rect.unit (s := S2x2x80x512) ![p, h, 0, 0] S1x1x80x512.size (inA hp hh)) (accOut mo mx s v a) Finset.univ (View.stores_vmem_bits_univ h_S1x1x80x512 rfl) (.inl rfl))

/-- The tile accumulated at parity `p` written at `oo`. -/
def finishP (arg5 : Memref sig .tc .vmem S1x4096x128 .bf16) (harg5 : arg5.IsWhole) (arg9 : Memref sig .tc .vmem S2x2x80x512 .f32)
    (oo : Fin 3 → ℕ) (ho : InO oo) (hpk : (Rect.unit (s := S1x4096x128) oo S1x512x128.size ho).PackedRows (EltTy.packing .bf16))
    (p : ℕ) (hp : p ≤ 1) : Prog (TpuEff nD τ sig (Elt F) Λ₀ .tc) PUnit := do
  let a0 : Vec F S1x1x64x512 .f32 ← Prog.lift (.load arg9 (Rect.unit (s := S2x2x80x512) ![p, 0, 0, 0] S1x1x64x512.size (inAv hp (Nat.zero_le 1))).toLoadRect (View.loadsAt_vmem h_S1x1x64x512))
  let l0 : Vec F S1x1x1x512 .f32 ← Prog.lift (.load arg9 (Rect.unit (s := S2x2x80x512) ![p, 0, 64, 0] S1x1x1x512.size (inAl hp (Nat.zero_le 1))).toLoadRect (View.loadsAt_vmem h_S1x1x1x512))
  let a1 : Vec F S1x1x64x512 .f32 ← Prog.lift (.load arg9 (Rect.unit (s := S2x2x80x512) ![p, 1, 0, 0] S1x1x64x512.size (inAv hp (le_refl 1))).toLoadRect (View.loadsAt_vmem h_S1x1x64x512))
  let l1 : Vec F S1x1x1x512 .f32 ← Prog.lift (.load arg9 (Rect.unit (s := S2x2x80x512) ![p, 1, 64, 0] S1x1x1x512.size (inAl hp (le_refl 1))).toLoadRect (View.loadsAt_vmem h_S1x1x1x512))
  let _o : Vec F S1x512x128 .bf16 ← Prog.lift (.load arg5 (Rect.unit (s := S1x4096x128) oo S1x512x128.size ho).toLoadRect (View.loadsAt_vmem h_S1x512x128))
  Prog.lift (.store arg5 (Rect.unit (s := S1x4096x128) oo S1x512x128.size ho) (tileOut a0 l0 a1 l1) Finset.univ (View.stores_vmem h_S1x512x128 (harg5.storeExact_slice rfl _ hpk) (fun _ => rfl)) (.inl rfl))

section Trip

variable (arg2 : Memref sig .tc .vmem S1x192x4096 .bf16) (arg3 : Memref sig .tc .vmem S1x4096x256 .bf16)
  (arg4 : Memref sig .tc .vmem S1x128x4096 .bf16) (arg5 : Memref sig .tc .vmem S1x4096x128 .bf16) (harg5 : arg5.IsWhole)
  (arg6 : Memref sig .tc .vmem S2x2x256x512 .f32) (arg7 : Memref sig .tc .vmem S2x2x1x512 .f32)
  (arg8 : Memref sig .tc .vmem S2x1x512 .f32) (arg9 : Memref sig .tc .vmem S2x2x80x512 .f32)

/-- One chunk, both heads: the scores of the chunk at `kr` into slot `sl` beside the folding of the chunk at `kc` in `sl'`. -/
def chunkP (q0 : Fin 3 → ℕ) (hq0 : InQ q0) (q1 : Fin 3 → ℕ) (hq1 : InQ q1) (kr kc sl sl' p : ℕ) (hkr : kr ≤ 3840) (hkc : kc ≤ 3840)
    (hsl : sl ≤ 1) (hsl' : sl' ≤ 1) (hp : p ≤ 1) : Prog (TpuEff nD τ sig (Elt F) Λ₀ .tc) PUnit := do
  scoresP arg2 arg3 arg6 arg7 q0 hq0 kr 0 sl 0 hkr (Nat.zero_le _) hsl (Nat.zero_le _)
  consumeP arg4 arg6 arg7 arg8 arg9 0 kc sl' 0 p (Nat.zero_le _) hkc hsl' (Nat.zero_le _) hp
  scoresP arg2 arg3 arg6 arg7 q1 hq1 kr 128 sl 1 hkr (le_refl _) hsl (le_refl _)
  consumeP arg4 arg6 arg7 arg8 arg9 64 kc sl' 1 p (le_refl _) hkc hsl' (le_refl _) hp

/-- A tile's start: the running maxima at minus infinity, the accumulator of parity `p` at zero. -/
def resetP (p : ℕ) (hp : p ≤ 1) : Prog (TpuEff nD τ sig (Elt F) Λ₀ .tc) PUnit := do
  let _m : Vec F S2x1x512 .f32 ← Prog.lift (.load arg8 (Rect.unit (s := S2x1x512) ![0, 0, 0] S2x1x512.size inb_S2x1x512_S2x1x512_0_0_0).toLoadRect (View.loadsAt_vmem h_S2x1x512))
  Prog.lift (.store arg8 (Rect.unit (s := S2x1x512) ![0, 0, 0] S2x1x512.size inb_S2x1x512_S2x1x512_0_0_0) (k0_pay2 (F := F)) Finset.univ (View.stores_vmem_bits_univ h_S2x1x512 rfl) (.inl rfl))
  let _a : Vec F S1x2x80x512 .f32 ← Prog.lift (.load arg9 (Rect.unit (s := S2x2x80x512) ![p, 0, 0, 0] S1x2x80x512.size (inA0 hp)).toLoadRect (View.loadsAt_vmem h_S1x2x80x512))
  Prog.lift (.store arg9 (Rect.unit (s := S2x2x80x512) ![p, 0, 0, 0] S1x2x80x512.size (inA0 hp)) (k0_pay3 (F := F)) Finset.univ (View.stores_vmem_bits_univ h_S1x2x80x512 rfl) (.inl rfl))

/-- One tile of queries, at `q0`, `q1` (a head each), against the sixteen chunks; `n0`, `n1` is where the next tile's
    queries lie, whose first scores are computed beside the last chunk; after the second chunk the tile before, of
    parity `p'`, is written at `oo`. -/
def tileP (q0 : Fin 3 → ℕ) (hq0 : InQ q0) (q1 : Fin 3 → ℕ) (hq1 : InQ q1) (n0 : Fin 3 → ℕ) (hn0 : InQ n0) (n1 : Fin 3 → ℕ) (hn1 : InQ n1)
    (oo : Fin 3 → ℕ) (ho : InO oo) (hpk : (Rect.unit (s := S1x4096x128) oo S1x512x128.size ho).PackedRows (EltTy.packing .bf16))
    (p p' : ℕ) (hp : p ≤ 1) (hp' : p' ≤ 1) : Prog (TpuEff nD τ sig (Elt F) Λ₀ .tc) PUnit := do
  resetP arg8 arg9 p hp
  chunkP arg2 arg3 arg4 arg6 arg7 arg8 arg9 q0 hq0 q1 hq1 256 0 1 0 p (by decide) (by decide) (by decide) (by decide) hp
  chunkP arg2 arg3 arg4 arg6 arg7 arg8 arg9 q0 hq0 q1 hq1 512 256 0 1 p (by decide) (by decide) (by decide) (by decide) hp
  finishP arg5 harg5 arg9 oo ho hpk p' hp'
  chunkP arg2 arg3 arg4 arg6 arg7 arg8 arg9 q0 hq0 q1 hq1 768 512 1 0 p (by decide) (by decide) (by decide) (by decide) hp
  chunkP arg2 arg3 arg4 arg6 arg7 arg8 arg9 q0 hq0 q1 hq1 1024 768 0 1 p (by decide) (by decide) (by decide) (by decide) hp
  chunkP arg2 arg3 arg4 arg6 arg7 arg8 arg9 q0 hq0 q1 hq1 1280 1024 1 0 p (by decide) (by decide) (by decide) (by decide) hp
  chunkP arg2 arg3 arg4 arg6 arg7 arg8 arg9 q0 hq0 q1 hq1 1536 1280 0 1 p (by decide) (by decide) (by decide) (by decide) hp
  chunkP arg2 arg3 arg4 arg6 arg7 arg8 arg9 q0 hq0 q1 hq1 1792 1536 1 0 p (by decide) (by decide) (by decide) (by decide) hp
  chunkP arg2 arg3 arg4 arg6 arg7 arg8 arg9 q0 hq0 q1 hq1 2048 1792 0 1 p (by decide) (by decide) (by decide) (by decide) hp
  chunkP arg2 arg3 arg4 arg6 arg7 arg8 arg9 q0 hq0 q1 hq1 2304 2048 1 0 p (by decide) (by decide) (by decide) (by decide) hp
  chunkP arg2 arg3 arg4 arg6 arg7 arg8 arg9 q0 hq0 q1 hq1 2560 2304 0 1 p (by decide) (by decide) (by decide) (by decide) hp
  chunkP arg2 arg3 arg4 arg6 arg7 arg8 arg9 q0 hq0 q1 hq1 2816 2560 1 0 p (by decide) (by decide) (by decide) (by decide) hp
  chunkP arg2 arg3 arg4 arg6 arg7 arg8 arg9 q0 hq0 q1 hq1 3072 2816 0 1 p (by decide) (by decide) (by decide) (by decide) hp
  chunkP arg2 arg3 arg4 arg6 arg7 arg8 arg9 q0 hq0 q1 hq1 3328 3072 1 0 p (by decide) (by decide) (by decide) (by decide) hp
  chunkP arg2 arg3 arg4 arg6 arg7 arg8 arg9 q0 hq0 q1 hq1 3584 3328 0 1 p (by decide) (by decide) (by decide) (by decide) hp
  chunkP arg2 arg3 arg4 arg6 arg7 arg8 arg9 q0 hq0 q1 hq1 3840 3584 1 0 p (by decide) (by decide) (by decide) (by decide) hp
  chunkP arg2 arg3 arg4 arg6 arg7 arg8 arg9 n0 hn0 n1 hn1 0 3840 0 1 p (by decide) (by decide) (by decide) (by decide) hp

/-- One trip: an even tile, then an odd one. -/
def tripP (j : Fin k0_t1_loop.trips) (u : Unit) : Prog (TpuEff nD τ sig (Elt F) Λ₀ .tc) Unit := do
  tileP arg2 arg3 arg4 arg5 harg5 arg6 arg7 arg8 arg9 (k0_off1 j 0#32) (k0_off1_inb j 0) (k0_off2 j 0#32) (k0_off2_inb j 0)
    (k0_off4 j 0#32) (k0_off4_inb j 0) (k0_off5 j 0#32) (k0_off5_inb j 0) (k0_off3 j 0#32) (k0_off3_inb j 0) (k0_off3_packedbf16 j 0) 0 1 (by decide) (by decide)
  tileP arg2 arg3 arg4 arg5 harg5 arg6 arg7 arg8 arg9 (k0_off1 j 1#32) (k0_off1_inb j 1) (k0_off2 j 1#32) (k0_off2_inb j 1)
    (k0_off4 j 1#32) (k0_off4_inb j 1) (k0_off5 j 1#32) (k0_off5_inb j 1) (k0_off3 j 1#32) (k0_off3_inb j 1) (k0_off3_packedbf16 j 1) 1 0 (by decide) (by decide)
  pure ⟨⟩

/-- The body at a grid point: the first tile's first scores, the accumulators at one, the four trips, the last tile written. -/
def bodyP : Prog (TpuEff nD τ sig (Elt F) Λ₀ .tc) PUnit := do
  scoresP arg2 arg3 arg6 arg7 ![0, 0, 0] inb_S1x192x4096_S1x96x512_0_0_0 0 0 0 0 (by decide) (by decide) (by decide) (by decide)
  scoresP arg2 arg3 arg6 arg7 ![0, 96, 0] inb_S1x192x4096_S1x96x512_0_96_0 0 128 0 1 (by decide) (by decide) (by decide) (by decide)
  let _a : Vec F S2x2x80x512 .f32 ← Prog.lift (.load arg9 (Rect.unit (s := S2x2x80x512) ![0, 0, 0, 0] S2x2x80x512.size inb_S2x2x80x512_S2x2x80x512_0_0_0_0).toLoadRect (View.loadsAt_vmem h_S2x2x80x512))
  Prog.lift (.store arg9 (Rect.unit (s := S2x2x80x512) ![0, 0, 0, 0] S2x2x80x512.size inb_S2x2x80x512_S2x2x80x512_0_0_0_0) (k0_pay589 (F := F)) Finset.univ (View.stores_vmem_bits_univ h_S2x2x80x512 rfl) (.inl rfl))
  let _u : Unit ← Scf.Loop.for k0_t1_loop k0_t1_ok ⟨⟩ (tripP arg2 arg3 arg4 arg5 harg5 arg6 arg7 arg8 arg9)
  finishP arg5 harg5 arg9 ![0, 3584, 0] inb_S1x4096x128_S1x512x128_0_3584_0 packedbf16_S1x4096x128_S1x512x128_0_3584_0 1 (by decide)

end Trip

end Cert.KernelIdeal.Steps
end
-- ==== Proof.Triples.lean ====
/-
  What each step of the attention kernel does to the buffers, as a function of their contents, and its triple.
-/
module

public import proofs.«01_k».proof.Proof.Steps
public import proofs.«01_k».proof.Proof.Gen.KernelIdeal.Frame
public import Idealize.ShloMosaic.Lib.Pipeline.Frame
public import Idealize.ShloMosaic.Lib.Pipeline.FrameBody
public import Idealize.ShloMosaic.Lib.Tactic

@[expose] public section

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ (UR sig nD τ) ℕ

/-! ## Loads and stores of an owned memref -/

section Rules

variable (c : Dev nD) {α : Type} {cs : CoreSpace} {s : Shape} {e : EltTy}

/-- A load through a rectangle reads the contents at the rectangle's places. -/
theorem wp_ld {Q : α → sProp 𝕄} {m : Memref sig .tc cs s e} {r : Rect s} {hl : m.view.LoadsAt r.toLoadRect} {X : s.Idx → Elt F e}
    {k : (r.toLoadRect.shape.Idx → Elt F e) → Prog (TpuEff nD τ sig (Elt F) Λ₀ .tc) α} :
    (owns (c : Thread nD τ) m fullShare X : sProp 𝕄)
      ⊢ iprop((owns (c : Thread nD τ) m fullShare X -∗ wp frame (wpE (defs₀ (F := F)) Variants.none c none) Set.univ (k (ld X r)) Q)
        -∗ wp frame (wpE (defs₀ (F := F)) Variants.none c none) Set.univ (.op (.load m r.toLoadRect hl) k) Q) := by
  unfold owns
  iintro ⟨%f, %hf, H⟩ Hk
  subst hf
  iapply (wp_load Variants.none (c : Thread nD τ) none Set.univ (m := m) (S := m.view.set) (Finset.map_subset_map.2 (Finset.subset_univ _))) $$ H
  iintro H
  rw [View.readAt_eq_ld]
  iapply Hk
  iexists f
  isplitr; · ipureintro; rfl
  iexact H

/-- A store through a rectangle overlays what it stores. -/
theorem wp_st {Q : α → sProp 𝕄} {m : Memref sig .tc cs s e} {r : Rect s} {w : r.shape.Idx → Elt F e} {hx : (m.access r).Stores Finset.univ}
    {hm : Finset.univ = Finset.univ ∨ ∀ a, r.stride a = 1} {X : s.Idx → Elt F e}
    {k : PUnit → Prog (TpuEff nD τ sig (Elt F) Λ₀ .tc) α} :
    (owns (c : Thread nD τ) m fullShare X : sProp 𝕄)
      ⊢ iprop((owns (c : Thread nD τ) m fullShare (r.overlay X w) -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ Hk
  subst hf
  iapply (wp_store Variants.none (c : Thread nD τ) none Set.univ (m := m) (r := r) (Mk := Finset.univ) (hx := hx) (hm := hm) (S := m.view.set) (by
    rw [View.setOn_univ, View.set_slice]; exact Finset.map_subset_map.2 (Finset.subset_univ _))) $$ H
  iintro H
  iapply Hk
  iexists (m.access r).write (Elt F) f w Finset.univ
  isplitr
  · ipureintro
    funext y
    by_cases hy : y ∈ r.set
    · obtain ⟨x, rfl⟩ := r.exists_idx_of_mem hy
      refine Eq.trans ?_ (r.overlay_emb _ _ x).symm
      exact View.read_slice_write_emb r f w (Finset.mem_univ x)
    · rw [r.overlay_of_not_mem _ _ hy]
      exact View.read_slice_write_of_not_mem r f w _ (by rwa [Rect.map_emb_univ])
  iexact H

end Rules

/-! ## The buffers' contents, and what a step makes of them -/

/-- The contents of the result block and of the four scratch buffers. -/
structure St (F : FTy → Type) where
  o : S1x4096x128.Idx → Elt F .bf16
  s : S2x2x256x512.Idx → Elt F .f32
  x : S2x2x1x512.Idx → Elt F .f32
  m : S2x1x512.Idx → Elt F .f32
  a : S2x2x80x512.Idx → Elt F .f32

abbrev rQ (qo : Fin 3 → ℕ) (hq : InQ qo) : Rect S1x192x4096 := Rect.unit (s := S1x192x4096) qo S1x96x512.size hq
abbrev rK {r c : ℕ} (hr : r ≤ 3840) (hc : c ≤ 128) : Rect S1x4096x256 := Rect.unit (s := S1x4096x256) ![0, r, c] S1x256x128.size (inK hr hc)
abbrev rV {r c : ℕ} (hr : r ≤ 64) (hc : c ≤ 3840) : Rect S1x128x4096 := Rect.unit (s := S1x128x4096) ![0, r, c] S1x64x256.size (inV hr hc)
abbrev rS {s h : ℕ} (hs : s ≤ 1) (hh : h ≤ 1) : Rect S2x2x256x512 := Rect.unit (s := S2x2x256x512) ![s, h, 0, 0] S1x1x256x512.size (inS hs hh)
abbrev rM {s h : ℕ} (hs : s ≤ 1) (hh : h ≤ 1) : Rect S2x2x1x512 := Rect.unit (s := S2x2x1x512) ![s, h, 0, 0] S1x1x1x512.size (inM hs hh)
abbrev rR {h : ℕ} (hh : h ≤ 1) : Rect S2x1x512 := Rect.unit (s := S2x1x512) ![h, 0, 0] S1x1x512.size (inR hh)
abbrev rR0 : Rect S2x1x512 := Rect.unit (s := S2x1x512) ![0, 0, 0] S2x1x512.size inb_S2x1x512_S2x1x512_0_0_0
abbrev rA {p h : ℕ} (hp : p ≤ 1) (hh : h ≤ 1) : Rect S2x2x80x512 := Rect.unit (s := S2x2x80x512) ![p, h, 0, 0] S1x1x80x512.size (inA hp hh)
abbrev rA0 {p : ℕ} (hp : p ≤ 1) : Rect S2x2x80x512 := Rect.unit (s := S2x2x80x512) ![p, 0, 0, 0] S1x2x80x512.size (inA0 hp)
abbrev rAv {p h : ℕ} (hp : p ≤ 1) (hh : h ≤ 1) : Rect S2x2x80x512 := Rect.unit (s := S2x2x80x512) ![p, h, 0, 0] S1x1x64x512.size (inAv hp hh)
abbrev rAl {p h : ℕ} (hp : p ≤ 1) (hh : h ≤ 1) : Rect S2x2x80x512 := Rect.unit (s := S2x2x80x512) ![p, h, 64, 0] S1x1x1x512.size (inAl hp hh)
abbrev rO (oo : Fin 3 → ℕ) (ho : InO oo) : Rect S1x4096x128 := Rect.unit (s := S1x4096x128) oo S1x512x128.size ho

section Fns

variable (Q : S1x192x4096.Idx → Elt F .bf16) (K : S1x4096x256.Idx → Elt F .bf16) (V : S1x128x4096.Idx → Elt F .bf16)

def scoresF (qo : Fin 3 → ℕ) (hq : InQ qo) (kr kc sl h : ℕ) (hkr : kr ≤ 3840) (hkc : kc ≤ 128) (hsl : sl ≤ 1) (hh : h ≤ 1) (st : St F) : St F :=
  { st with
    s := (rS hsl hh).overlay st.s (scoreOut (ld Q (rQ qo hq)) (ld K (rK hkr hkc)))
    x := (rM hsl hh).overlay st.x (maxOut (ld Q (rQ qo hq)) (ld K (rK hkr hkc))) }

def consumeF (vr kc sl h p : ℕ) (hvr : vr ≤ 64) (hkc : kc ≤ 3840) (hsl : sl ≤ 1) (hh : h ≤ 1) (hp : p ≤ 1) (st : St F) : St F :=
  { st with
    m := (rR hh).overlay st.m (runMax (ld st.m (rR hh)) (ld st.x (rM hsl hh)))
    a := (rA hp hh).overlay st.a (accOut (ld st.m (rR hh)) (ld st.x (rM hsl hh)) (ld st.s (rS hsl hh)) (ld V (rV hvr hkc)) (ld st.a (rA hp hh))) }

def finishF (oo : Fin 3 → ℕ) (ho : InO oo) (p : ℕ) (hp : p ≤ 1) (st : St F) : St F :=
  { st with
    o := (rO oo ho).overlay st.o (tileOut (ld st.a (rAv hp (Nat.zero_le 1))) (ld st.a (rAl hp (Nat.zero_le 1)))
      (ld st.a (rAv hp (le_refl 1))) (ld st.a (rAl hp (le_refl 1)))) }

def resetF (p : ℕ) (hp : p ≤ 1) (st : St F) : St F :=
  { st with m := rR0.overlay st.m (k0_pay2 (F := F)), a := (rA0 hp).overlay st.a (k0_pay3 (F := F)) }

def chunkF (q0 : Fin 3 → ℕ) (hq0 : InQ q0) (q1 : Fin 3 → ℕ) (hq1 : InQ q1) (kr kc sl sl' p : ℕ) (hkr : kr ≤ 3840) (hkc : kc ≤ 3840)
    (hsl : sl ≤ 1) (hsl' : sl' ≤ 1) (hp : p ≤ 1) (st : St F) : St F :=
  consumeF V 64 kc sl' 1 p (le_refl _) hkc hsl' (le_refl _) hp
    (scoresF Q K q1 hq1 kr 128 sl 1 hkr (le_refl _) hsl (le_refl _)
      (consumeF V 0 kc sl' 0 p (Nat.zero_le _) hkc hsl' (Nat.zero_le _) hp
        (scoresF Q K q0 hq0 kr 0 sl 0 hkr (Nat.zero_le _) hsl (Nat.zero_le _) st)))

end Fns

section Sound

/-- The buffers a grid point works on, and the three blocks it reads. -/
structure Bufs (F : FTy → Type) where
  c : Dev nD
  a2 : Memref sig .tc .vmem S1x192x4096 .bf16
  a3 : Memref sig .tc .vmem S1x4096x256 .bf16
  a4 : Memref sig .tc .vmem S1x128x4096 .bf16
  a5 : Memref sig .tc .vmem S1x4096x128 .bf16
  h5 : a5.IsWhole
  a6 : Memref sig .tc .vmem S2x2x256x512 .f32
  a7 : Memref sig .tc .vmem S2x2x1x512 .f32
  a8 : Memref sig .tc .vmem S2x1x512 .f32
  a9 : Memref sig .tc .vmem S2x2x80x512 .f32
  Q : S1x192x4096.Idx → Elt F .bf16
  K : S1x4096x256.Idx → Elt F .bf16
  V : S1x128x4096.Idx → Elt F .bf16

variable (B : Bufs F)

/-- The eight buffers owned, the inputs at their blocks and the rest at `st`. -/
def hold (st : St F) : sProp 𝕄 :=
  iprop(owns (B.c : Thread nD τ) B.a2 fullShare B.Q ∗ owns (B.c : Thread nD τ) B.a3 fullShare B.K ∗ owns (B.c : Thread nD τ) B.a4 fullShare B.V
    ∗ owns (B.c : Thread nD τ) B.a5 fullShare st.o ∗ owns (B.c : Thread nD τ) B.a6 fullShare st.s ∗ owns (B.c : Thread nD τ) B.a7 fullShare st.x
    ∗ owns (B.c : Thread nD τ) B.a8 fullShare st.m ∗ owns (B.c : Thread nD τ) B.a9 fullShare st.a)

theorem scores_sound (qo : Fin 3 → ℕ) (hq : InQ qo) (kr kc sl h : ℕ) (hkr : kr ≤ 3840) (hkc : kc ≤ 128) (hsl : sl ≤ 1) (hh : h ≤ 1) (st : St F) :
    hold B st ⊢ wp frame (wpE (defs₀ (F := F)) Variants.none B.c none) Set.univ (scoresP (F := F) B.a2 B.a3 B.a6 B.a7 qo hq kr kc sl h hkr hkc hsl hh)
      fun _ => hold B (scoresF B.Q B.K qo hq kr kc sl h hkr hkc hsl hh st) := by
  unfold scoresP hold scoresF
  iintro ⟨H2, H3, H4, H5, H6, H7, H8, H9⟩
  simp only [Prog.bind_lift]
  iapply (wp_ld B.c) $$ H2; iintro H2
  iapply (wp_ld B.c) $$ H3; iintro H3
  iapply (wp_ld B.c) $$ H6; iintro H6
  iapply (wp_st B.c) $$ H6; iintro H6
  iapply (wp_ld B.c) $$ H7; iintro H7
  iapply (wp_st B.c) $$ H7; iintro H7
  rw [wp_ret]; imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem consume_sound (vr kc sl h p : ℕ) (hvr : vr ≤ 64) (hkc : kc ≤ 3840) (hsl : sl ≤ 1) (hh : h ≤ 1) (hp : p ≤ 1) (st : St F) :
    hold B st ⊢ wp frame (wpE (defs₀ (F := F)) Variants.none B.c none) Set.univ (consumeP (F := F) B.a4 B.a6 B.a7 B.a8 B.a9 vr kc sl h p hvr hkc hsl hh hp)
      fun _ => hold B (consumeF B.V vr kc sl h p hvr hkc hsl hh hp st) := by
  unfold consumeP hold consumeF
  iintro ⟨H2, H3, H4, H5, H6, H7, H8, H9⟩
  simp only [Prog.bind_lift]
  iapply (wp_ld B.c) $$ H8; iintro H8
  iapply (wp_ld B.c) $$ H7; iintro H7
  iapply (wp_ld B.c) $$ H6; iintro H6
  iapply (wp_ld B.c) $$ H8; iintro H8
  iapply (wp_st B.c) $$ H8; iintro H8
  iapply (wp_ld B.c) $$ H4; iintro H4
  iapply (wp_ld B.c) $$ H9; iintro H9
  iapply (wp_ld B.c) $$ H9; iintro H9
  iapply (wp_st B.c) $$ H9; iintro H9
  rw [wp_ret]; imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem finish_sound (oo : Fin 3 → ℕ) (ho : InO oo) (hpk : (Rect.unit (s := S1x4096x128) oo S1x512x128.size ho).PackedRows (EltTy.packing .bf16))
    (p : ℕ) (hp : p ≤ 1) (st : St F) :
    hold B st ⊢ wp frame (wpE (defs₀ (F := F)) Variants.none B.c none) Set.univ (finishP (F := F) B.a5 B.h5 B.a9 oo ho hpk p hp) fun _ => hold B (finishF oo ho p hp st) := by
  unfold finishP hold finishF
  iintro ⟨H2, H3, H4, H5, H6, H7, H8, H9⟩
  simp only [Prog.bind_lift]
  iapply (wp_ld B.c) $$ H9; iintro H9
  iapply (wp_ld B.c) $$ H9; iintro H9
  iapply (wp_ld B.c) $$ H9; iintro H9
  iapply (wp_ld B.c) $$ H9; iintro H9
  iapply (wp_ld B.c) $$ H5; iintro H5
  iapply (wp_st B.c) $$ H5; iintro H5
  rw [wp_ret]; imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem reset_sound (p : ℕ) (hp : p ≤ 1) (st : St F) :
    hold B st ⊢ wp frame (wpE (defs₀ (F := F)) Variants.none B.c none) Set.univ (resetP (F := F) B.a8 B.a9 p hp) fun _ => hold B (resetF p hp st) := by
  unfold resetP hold resetF
  iintro ⟨H2, H3, H4, H5, H6, H7, H8, H9⟩
  simp only [Prog.bind_lift]
  iapply (wp_ld B.c) $$ H8; iintro H8
  iapply (wp_st B.c) $$ H8; iintro H8
  iapply (wp_ld B.c) $$ H9; iintro H9
  iapply (wp_st B.c) $$ H9; iintro H9
  rw [wp_ret]; imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- One program after another. -/
theorem seq_sound {α β : Type} {P : sProp 𝕄} {R : α → sProp 𝕄} {T : β → sProp 𝕄} {p : Prog (TpuEff nD τ sig (Elt F) Λ₀ .tc) α}
    {k : α → Prog (TpuEff nD τ sig (Elt F) Λ₀ .tc) β} (hp : P ⊢ wp frame (wpE (defs₀ (F := F)) Variants.none B.c none) Set.univ p R) (hk : ∀ a, R a ⊢ wp frame (wpE (defs₀ (F := F)) Variants.none B.c none) Set.univ (k a) T) : P ⊢ wp frame (wpE (defs₀ (F := F)) Variants.none B.c none) Set.univ (p >>= k) T := by
  rw [wp_bind]
  exact hp.trans (wp_mono _ _ _ hk)

theorem chunk_sound (q0 : Fin 3 → ℕ) (hq0 : InQ q0) (q1 : Fin 3 → ℕ) (hq1 : InQ q1) (kr kc sl sl' p : ℕ) (hkr : kr ≤ 3840) (hkc : kc ≤ 3840)
    (hsl : sl ≤ 1) (hsl' : sl' ≤ 1) (hp : p ≤ 1) (st : St F) :
    hold B st ⊢ wp frame (wpE (defs₀ (F := F)) Variants.none B.c none) Set.univ (chunkP (F := F) B.a2 B.a3 B.a4 B.a6 B.a7 B.a8 B.a9 q0 hq0 q1 hq1 kr kc sl sl' p hkr hkc hsl hsl' hp)
      fun _ => hold B (chunkF B.Q B.K B.V q0 hq0 q1 hq1 kr kc sl sl' p hkr hkc hsl hsl' hp st) := by
  unfold chunkP
  refine seq_sound B (scores_sound B _ _ _ _ _ _ _ _ _ _ st) fun _ => ?_
  refine seq_sound B (consume_sound B _ _ _ _ _ _ _ _ _ _ _) fun _ => ?_
  refine seq_sound B (scores_sound B _ _ _ _ _ _ _ _ _ _ _) fun _ => ?_
  exact consume_sound B _ _ _ _ _ _ _ _ _ _ _

end Sound

end Cert.KernelIdeal.Steps
end
-- ==== Proof.Tile.lean ====
/-
  What a tile of queries makes of the buffers: reading a buffer after an overlay, a chunk's step, a tile of sixteen chunks.
-/
module

public import proofs.«01_k».proof.Proof.Triples

@[expose] public section

noncomputable section

namespace Cert.KernelIdeal.Steps

open Cert.KernelIdeal Cert.KernelIdeal.Gen
open Idealize.ShloMosaic Idealize.ShloMosaic.TcCoe
open Idealize.ShloMosaic.View (ld)

variable {F : FTy → Type} [FloatOps F]

/-! ## Reading after an overlay -/

section Overlay

variable {s : Shape} {α : Type}

theorem overlay_idx (r : Rect s) (X : s.Idx → α) (w : r.shape.Idx → α) (x : r.shape.Idx) : r.overlay X w (r.idx x) = w x :=
  r.overlay_emb X w x

variable {e : EltTy} {Val : EltTy → Type}

theorem ld_self (r : Rect s) (X : s.Idx → Val e) (w : r.shape.Idx → Val e) : ld (r.overlay X w) r = w :=
  funext fun x => r.overlay_emb X w x

/-- Rectangles apart on one axis. -/
theorem ld_apart {off off' size size' : Fin s.rank → ℕ} (h : ∀ a, off a + size a ≤ s.size a) (h' : ∀ a, off' a + size' a ≤ s.size a)
    (X : s.Idx → Val e) (w : (Rect.unit off size h).shape.Idx → Val e) (a : Fin s.rank)
    (ha : off a + size a ≤ off' a ∨ off' a + size' a ≤ off a) :
    ld ((Rect.unit off size h).overlay X w) (Rect.unit off' size' h') = ld X (Rect.unit off' size' h') := by
  funext x
  refine (Rect.unit off size h).overlay_of_not_mem X w ?_
  refine Rect.not_mem_set_of_axis _ _ a (off a) (size a) rfl rfl rfl ?_
  have hx : ((Rect.unit off' size' h').idx x a).val = off' a + 1 * (x a).val := rfl
  have hl : (x a).val < size' a := (x a).isLt
  rw [hx]
  omega

/-- A rectangle inside a rectangle, read at once. -/
theorem ld_within {off size off2 size2 off3 : Fin s.rank → ℕ} (h : ∀ a, off a + size a ≤ s.size a) (h2 : ∀ a, off2 a + size2 a ≤ size a)
    (h3 : ∀ a, off3 a + size2 a ≤ s.size a) (X : s.Idx → Val e) (ho : ∀ a, off3 a = off a + off2 a) :
    ld X (Rect.unit off3 size2 h3) = ld (ld X (Rect.unit off size h)) (Rect.unit (s := (Rect.unit off size h).shape) off2 size2 h2) := by
  funext x
  refine congrArg X (funext fun a => Fin.ext ?_)
  show off3 a + 1 * (x a).val = off a + 1 * (off2 a + 1 * (x a).val)
  rw [ho a]; omega

/-- A rectangle inside one just overlaid. -/
theorem ld_overlay_within {off size off2 size2 off3 : Fin s.rank → ℕ} (h : ∀ a, off a + size a ≤ s.size a) (h2 : ∀ a, off2 a + size2 a ≤ size a)
    (h3 : ∀ a, off3 a + size2 a ≤ s.size a) (X : s.Idx → Val e) (w : (Rect.unit off size h).shape.Idx → Val e) (ho : ∀ a, off3 a = off a + off2 a) :
    ld ((Rect.unit off size h).overlay X w) (Rect.unit off3 size2 h3) = ld w (Rect.unit (s := (Rect.unit off size h).shape) off2 size2 h2) := by
  rw [ld_within h h2 h3 _ ho, ld_self]

end Overlay

/-- The queries' offset of tile `t`, head `h`. -/
abbrev qOff (t h : ℕ) : Fin 3 → ℕ := ![0, 96 * h, 512 * t]

theorem inQ_tile {t h : ℕ} (ht : t ≤ 7) (hh : h ≤ 1) : InQ (qOff t h) := by
  intro a; fin_cases a
  · exact le_refl 1
  · show 96 * h + 96 ≤ 192; omega
  · show 512 * t + 512 ≤ 4096; omega

theorem inO_tile {t : ℕ} (ht : t ≤ 7) : InO ![0, 512 * t, 0] := by
  intro a; fin_cases a
  · exact le_refl 1
  · show 512 * t + 512 ≤ 4096; omega
  · exact le_refl 128

/-! ## The parts of the scratch buffers -/

section Parts

/-- The scores of slot `s`, head `h`. -/
def gS {s h : ℕ} (hs : s ≤ 1) (hh : h ≤ 1) (X : Vec F S2x2x256x512 .f32) : Vec F S1x1x256x512 .f32 := ld X (rS hs hh)
def pS {s h : ℕ} (hs : s ≤ 1) (hh : h ≤ 1) (X : Vec F S2x2x256x512 .f32) (w : Vec F S1x1x256x512 .f32) : Vec F S2x2x256x512 .f32 := (rS hs hh).overlay X w
/-- Their maxima. -/
def gM {s h : ℕ} (hs : s ≤ 1) (hh : h ≤ 1) (X : Vec F S2x2x1x512 .f32) : Vec F S1x1x1x512 .f32 := ld X (rM hs hh)
def pM {s h : ℕ} (hs : s ≤ 1) (hh : h ≤ 1) (X : Vec F S2x2x1x512 .f32) (w : Vec F S1x1x1x512 .f32) : Vec F S2x2x1x512 .f32 := (rM hs hh).overlay X w
/-- The running maxima of head `h`. -/
def gR {h : ℕ} (hh : h ≤ 1) (X : Vec F S2x1x512 .f32) : Vec F S1x1x512 .f32 := ld X (rR hh)
def pR {h : ℕ} (hh : h ≤ 1) (X : Vec F S2x1x512 .f32) (w : Vec F S1x1x512 .f32) : Vec F S2x1x512 .f32 := (rR hh).overlay X w
/-- The accumulator of parity `p`, head `h`. -/
def gA {p h : ℕ} (hp : p ≤ 1) (hh : h ≤ 1) (X : Vec F S2x2x80x512 .f32) : Vec F S1x1x80x512 .f32 := ld X (rA hp hh)
def pA {p h : ℕ} (hp : p ≤ 1) (hh : h ≤ 1) (X : Vec F S2x2x80x512 .f32) (w : Vec F S1x1x80x512 .f32) : Vec F S2x2x80x512 .f32 := (rA hp hh).overlay X w
/-- Both accumulators of parity `p`, and one head's of them. -/
def pA0 {p : ℕ} (hp : p ≤ 1) (X : Vec F S2x2x80x512 .f32) (w : Vec F S1x2x80x512 .f32) : Vec F S2x2x80x512 .f32 := (rA0 hp).overlay X w
theorem inZ {h : ℕ} (hh : h ≤ 1) : ∀ a, (![0, h, 0, 0] : Fin 4 → ℕ) a + S1x1x80x512.size a ≤ S1x2x80x512.size a := by
  intro a; fin_cases a
  · exact le_refl 1
  · exact Nat.add_le_add_right hh 1
  · exact le_refl 80
  · exact le_refl 512
abbrev rZ {h : ℕ} (hh : h ≤ 1) : Rect S1x2x80x512 := Rect.unit (s := S1x2x80x512) ![0, h, 0, 0] S1x1x80x512.size (inZ hh)
def gZ {h : ℕ} (hh : h ≤ 1) (X : Vec F S1x2x80x512 .f32) : Vec F S1x1x80x512 .f32 := ld X (rZ hh)
/-- The rows of values, and the row of sums, of one accumulator. -/
abbrev sV : Rect S1x1x80x512 := Rect.unit (s := S1x1x80x512) ![0, 0, 0, 0] S1x1x64x512.size (by decide)
abbrev sL : Rect S1x1x80x512 := Rect.unit (s := S1x1x80x512) ![0, 0, 64, 0] S1x1x1x512.size (by decide)
def gV (X : Vec F S1x1x80x512 .f32) : Vec F S1x1x64x512 .f32 := ld X sV
def gL (X : Vec F S1x1x80x512 .f32) : Vec F S1x1x1x512 .f32 := ld X sL
/-- A tile's queries, a chunk's keys and values. -/
def gQ (qo : Fin 3 → ℕ) (hq : InQ qo) (Q : Vec F S1x192x4096 .bf16) : Vec F S1x96x512 .bf16 := ld Q (rQ qo hq)
def gK {r c : ℕ} (hr : r ≤ 3840) (hc : c ≤ 128) (K : Vec F S1x4096x256 .bf16) : Vec F S1x256x128 .bf16 := ld K (rK hr hc)
def gVt {r c : ℕ} (hr : r ≤ 64) (hc : c ≤ 3840) (V : Vec F S1x128x4096 .bf16) : Vec F S1x64x256 .bf16 := ld V (rV hr hc)
def pO (oo : Fin 3 → ℕ) (ho : InO oo) (X : Vec F S1x4096x128 .bf16) (w : Vec F S1x512x128 .bf16) : Vec F S1x4096x128 .bf16 := (rO oo ho).overlay X w

theorem gS_pS {s h : ℕ} (hs : s ≤ 1) (hh : h ≤ 1) (X : Vec F S2x2x256x512 .f32) (w : Vec F S1x1x256x512 .f32) : gS hs hh (pS hs hh X w) = w := by
  unfold gS pS
  exact ld_self (Val := Elt F) (e := .f32) (rS hs hh) X w
theorem gM_pM {s h : ℕ} (hs : s ≤ 1) (hh : h ≤ 1) (X : Vec F S2x2x1x512 .f32) (w : Vec F S1x1x1x512 .f32) : gM hs hh (pM hs hh X w) = w := by
  unfold gM pM
  exact ld_self (Val := Elt F) (e := .f32) (rM hs hh) X w
theorem gR_pR {h : ℕ} (hh : h ≤ 1) (X : Vec F S2x1x512 .f32) (w : Vec F S1x1x512 .f32) : gR hh (pR hh X w) = w := by
  unfold gR pR
  exact ld_self (Val := Elt F) (e := .f32) (rR hh) X w
theorem gA_pA {p h : ℕ} (hp : p ≤ 1) (hh : h ≤ 1) (X : Vec F S2x2x80x512 .f32) (w : Vec F S1x1x80x512 .f32) : gA hp hh (pA hp hh X w) = w := by
  unfold gA pA
  exact ld_self (Val := Elt F) (e := .f32) (rA hp hh) X w

theorem gS_ne {s h s' h' : ℕ} (hs : s ≤ 1) (hh : h ≤ 1) (hs' : s' ≤ 1) (hh' : h' ≤ 1) (hne : s ≠ s' ∨ h ≠ h') (X : Vec F S2x2x256x512 .f32)
    (w : Vec F S1x1x256x512 .f32) : gS hs' hh' (pS hs hh X w) = gS hs' hh' X := by
  unfold gS pS
  rcases hne with hne | hne
  · have := ld_apart (e := .f32) (Val := Elt F) (inS hs hh) (inS hs' hh') X w (0 : Fin 4)
    refine this ?_
    show s + 1 ≤ s' ∨ s' + 1 ≤ s; omega
  · have := ld_apart (e := .f32) (Val := Elt F) (inS hs hh) (inS hs' hh') X w (1 : Fin 4)
    refine this ?_
    show h + 1 ≤ h' ∨ h' + 1 ≤ h; omega

theorem gM_ne {s h s' h' : ℕ} (hs : s ≤ 1) (hh : h ≤ 1) (hs' : s' ≤ 1) (hh' : h' ≤ 1) (hne : s ≠ s' ∨ h ≠ h') (X : Vec F S2x2x1x512 .f32)
    (w : Vec F S1x1x1x512 .f32) : gM hs' hh' (pM hs hh X w) = gM hs' hh' X := by
  unfold gM pM
  rcases hne with hne | hne
  · have := ld_apart (e := .f32) (Val := Elt F) (inM hs hh) (inM hs' hh') X w (0 : Fin 4)
    refine this ?_
    show s + 1 ≤ s' ∨ s' + 1 ≤ s; omega
  · have := ld_apart (e := .f32) (Val := Elt F) (inM hs hh) (inM hs' hh') X w (1 : Fin 4)
    refine this ?_
    show h + 1 ≤ h' ∨ h' + 1 ≤ h; omega

theorem gA_ne {p h p' h' : ℕ} (hs : p ≤ 1) (hh : h ≤ 1) (hs' : p' ≤ 1) (hh' : h' ≤ 1) (hne : p ≠ p' ∨ h ≠ h') (X : Vec F S2x2x80x512 .f32)
    (w : Vec F S1x1x80x512 .f32) : gA hs' hh' (pA hs hh X w) = gA hs' hh' X := by
  unfold gA pA
  rcases hne with hne | hne
  · have := ld_apart (e := .f32) (Val := Elt F) (inA hs hh) (inA hs' hh') X w (0 : Fin 4)
    refine this ?_
    show p + 1 ≤ p' ∨ p' + 1 ≤ p; omega
  · have := ld_apart (e := .f32) (Val := Elt F) (inA hs hh) (inA hs' hh') X w (1 : Fin 4)
    refine this ?_
    show h + 1 ≤ h' ∨ h' + 1 ≤ h; omega

theorem gR_ne {h h' : ℕ} (hh : h ≤ 1) (hh' : h' ≤ 1) (hne : h ≠ h') (X : Vec F S2x1x512 .f32) (w : Vec F S1x1x512 .f32) :
    gR hh' (pR hh X w) = gR hh' X := by
  unfold gR pR
  have := ld_apart (e := .f32) (Val := Elt F) (inR hh) (inR hh') X w (0 : Fin 3)
  refine this ?_
  show h + 1 ≤ h' ∨ h' + 1 ≤ h; omega

theorem gA_pA0_ne {p p' h' : ℕ} (hs : p ≤ 1) (hs' : p' ≤ 1) (hh' : h' ≤ 1) (hne : p ≠ p') (X : Vec F S2x2x80x512 .f32)
    (w : Vec F S1x2x80x512 .f32) : gA hs' hh' (pA0 hs X w) = gA hs' hh' X := by
  unfold gA pA0
  have := ld_apart (e := .f32) (Val := Elt F) (inA0 hs) (inA hs' hh') X w (0 : Fin 4)
  refine this ?_
  show p + 1 ≤ p' ∨ p' + 1 ≤ p; omega

/-- Reading one buffer through a rectangle inside another's. -/
theorem ld_gV {p h : ℕ} (hp : p ≤ 1) (hh : h ≤ 1) (X : Vec F S2x2x80x512 .f32) :
    (ld X (rAv hp hh) : Vec F S1x1x64x512 .f32) = gV (gA hp hh X) := by
  unfold gV gA
  have := ld_within (s := S2x2x80x512) (e := .f32) (Val := Elt F) (off := ![p, h, 0, 0]) (size := S1x1x80x512.size) (inA hp hh) (off2 := ![0, 0, 0, 0]) (size2 := S1x1x64x512.size) (by decide) (off3 := ![p, h, 0, 0]) (inAv hp hh) X (by
    intro a; fin_cases a <;> rfl)
  exact this

theorem ld_gL {p h : ℕ} (hp : p ≤ 1) (hh : h ≤ 1) (X : Vec F S2x2x80x512 .f32) :
    (ld X (rAl hp hh) : Vec F S1x1x1x512 .f32) = gL (gA hp hh X) := by
  unfold gL gA
  have := ld_within (s := S2x2x80x512) (e := .f32) (Val := Elt F) (off := ![p, h, 0, 0]) (size := S1x1x80x512.size) (inA hp hh) (off2 := ![0, 0, 64, 0]) (size2 := S1x1x1x512.size) (by decide) (off3 := ![p, h, 64, 0]) (inAl hp hh) X (by
    intro a; fin_cases a <;> rfl)
  exact this

theorem gA_pA0 {p h : ℕ} (hp : p ≤ 1) (hh : h ≤ 1) (X : Vec F S2x2x80x512 .f32) (w : Vec F S1x2x80x512 .f32) :
    gA hp hh (pA0 hp X w) = gZ hh w := by
  unfold gA pA0 gZ
  have := ld_overlay_within (s := S2x2x80x512) (e := .f32) (Val := Elt F) (off := ![p, 0, 0, 0]) (size := S1x2x80x512.size) (inA0 hp) (off2 := ![0, h, 0, 0]) (size2 := S1x1x80x512.size) (inZ hh) (off3 := ![p, h, 0, 0]) (inA hp hh) X w (by
    intro a; fin_cases a <;> first | rfl | exact (Nat.zero_add _).symm)
  exact this

theorem gR_reset {h : ℕ} (hh : h ≤ 1) (X w : Vec F S2x1x512 .f32) : gR hh (rR0.overlay X w) = gR hh w := by
  unfold gR
  have := ld_overlay_within (s := S2x1x512) (e := .f32) (Val := Elt F) (off := ![0, 0, 0]) (size := S2x1x512.size) inb_S2x1x512_S2x1x512_0_0_0 (off2 := ![h, 0, 0]) (size2 := S1x1x512.size) (inR hh) (off3 := ![h, 0, 0]) (inR hh) X w (by
    intro a; fin_cases a <;> first | rfl | exact (Nat.zero_add _).symm)
  exact this

end Parts

/-! ## What the scratch buffers hold -/

/-- Slot `sl` holds scores `S` and maxima `X`, the running maxima are `M`, the accumulators of parity `p` are `A`, those of
    parity `p'` are `B`, and the result block is `o`; a pair is head 0's and head 1's. -/
structure Has (sl p p' : ℕ) (hsl : sl ≤ 1) (hp : p ≤ 1) (hp' : p' ≤ 1) (S : Fin 2 → Vec F S1x1x256x512 .f32) (X : Fin 2 → Vec F S1x1x1x512 .f32)
    (M : Fin 2 → Vec F S1x1x512 .f32) (A B : Fin 2 → Vec F S1x1x80x512 .f32) (o : Vec F S1x4096x128 .bf16) (st : St F) : Prop where
  s0 : gS hsl (Nat.zero_le 1) st.s = S 0
  s1 : gS hsl (le_refl 1) st.s = S 1
  x0 : gM hsl (Nat.zero_le 1) st.x = X 0
  x1 : gM hsl (le_refl 1) st.x = X 1
  m0 : gR (Nat.zero_le 1) st.m = M 0
  m1 : gR (le_refl 1) st.m = M 1
  a0 : gA hp (Nat.zero_le 1) st.a = A 0
  a1 : gA hp (le_refl 1) st.a = A 1
  b0 : gA hp' (Nat.zero_le 1) st.a = B 0
  b1 : gA hp' (le_refl 1) st.a = B 1
  o' : st.o = o

section Steps

variable (Q : Vec F S1x192x4096 .bf16) (K : Vec F S1x4096x256 .bf16) (V : Vec F S1x128x4096 .bf16)

theorem scoresF_eq (qo : Fin 3 → ℕ) (hq : InQ qo) (kr kc sl h : ℕ) (hkr : kr ≤ 3840) (hkc : kc ≤ 128) (hsl : sl ≤ 1) (hh : h ≤ 1) (st : St F) :
    scoresF Q K qo hq kr kc sl h hkr hkc hsl hh st = ⟨st.o, pS hsl hh st.s (scoreOut (gQ qo hq Q) (gK hkr hkc K)),
      pM hsl hh st.x (maxOut (gQ qo hq Q) (gK hkr hkc K)), st.m, st.a⟩ := rfl

theorem consumeF_eq (vr kc sl h p : ℕ) (hvr : vr ≤ 64) (hkc : kc ≤ 3840) (hsl : sl ≤ 1) (hh : h ≤ 1) (hp : p ≤ 1) (st : St F) :
    consumeF V vr kc sl h p hvr hkc hsl hh hp st = ⟨st.o, st.s, st.x, pR hh st.m (runMax (gR hh st.m) (gM hsl hh st.x)),
      pA hp hh st.a (accOut (gR hh st.m) (gM hsl hh st.x) (gS hsl hh st.s) (gVt hvr hkc V) (gA hp hh st.a))⟩ := rfl

/-- A chunk: the slot's scores are folded, the other slot holds the next chunk's. -/
theorem Has.chunk {sl sl' p p' : ℕ} {hsl : sl ≤ 1} {hsl' : sl' ≤ 1} {hp : p ≤ 1} {hp' : p' ≤ 1} {S X M A B o} {st : St F}
    (H : Has sl' p p' hsl' hp hp' S X M A B o st) (hs : sl ≠ sl') (hpp : p ≠ p')
    (q0 : Fin 3 → ℕ) (hq0 : InQ q0) (q1 : Fin 3 → ℕ) (hq1 : InQ q1) (kr kc : ℕ) (hkr : kr ≤ 3840) (hkc : kc ≤ 3840) :
    Has sl p p' hsl hp hp'
      ![scoreOut (gQ q0 hq0 Q) (gK hkr (Nat.zero_le _) K), scoreOut (gQ q1 hq1 Q) (gK hkr (le_refl _) K)]
      ![maxOut (gQ q0 hq0 Q) (gK hkr (Nat.zero_le _) K), maxOut (gQ q1 hq1 Q) (gK hkr (le_refl _) K)]
      ![runMax (M 0) (X 0), runMax (M 1) (X 1)]
      ![accOut (M 0) (X 0) (S 0) (gVt (Nat.zero_le _) hkc V) (A 0), accOut (M 1) (X 1) (S 1) (gVt (le_refl _) hkc V) (A 1)]
      B o (chunkF Q K V q0 hq0 q1 hq1 kr kc sl sl' p hkr hkc hsl hsl' hp st) := by
  have h01 : (0 : ℕ) ≠ 1 := by decide
  have h10 : (1 : ℕ) ≠ 0 := by decide
  unfold chunkF
  simp only [scoresF_eq, consumeF_eq]
  constructor
  · simp only [gS_ne _ _ _ _ (.inr h10), gS_pS, Matrix.cons_val_zero]
  · simp only [gS_pS, Matrix.cons_val_one, Matrix.cons_val_fin_one]
  · simp only [gM_ne _ _ _ _ (.inr h10), gM_pM, Matrix.cons_val_zero]
  · simp only [gM_pM, Matrix.cons_val_one, Matrix.cons_val_fin_one]
  · simp only [gR_ne _ _ h10, gR_pR, gM_ne _ _ _ _ (.inl hs), H.m0, H.x0, Matrix.cons_val_zero]
  · simp only [gR_ne _ _ h01, gR_pR, gM_ne _ _ _ _ (.inl hs), H.m1, H.x1, Matrix.cons_val_one, Matrix.cons_val_fin_one]
  · simp only [gA_ne _ _ _ _ (.inr h10), gA_pA, gM_ne _ _ _ _ (.inl hs), gS_ne _ _ _ _ (.inl hs), H.m0, H.x0, H.s0, H.a0, Matrix.cons_val_zero]
  · simp only [gA_ne _ _ _ _ (.inr h01), gR_ne _ _ h01, gA_pA, gM_ne _ _ _ _ (.inl hs), gS_ne _ _ _ _ (.inl hs), H.m1, H.x1, H.s1, H.a1,
      Matrix.cons_val_one, Matrix.cons_val_fin_one]
  · simp only [gA_ne _ _ _ _ (.inl hpp), H.b0]
  · simp only [gA_ne _ _ _ _ (.inl hpp), H.b1]
  · exact H.o'

/-- What a finished pair of accumulators is written as. -/
def tileRes (A : Fin 2 → Vec F S1x1x80x512 .f32) : Vec F S1x512x128 .bf16 := tileOut (gV (A 0)) (gL (A 0)) (gV (A 1)) (gL (A 1))

theorem finishF_eq (oo : Fin 3 → ℕ) (ho : InO oo) (p : ℕ) (hp : p ≤ 1) (st : St F) :
    finishF oo ho p hp st = ⟨pO oo ho st.o (tileRes ![gA hp (Nat.zero_le 1) st.a, gA hp (le_refl 1) st.a]), st.s, st.x, st.m, st.a⟩ := by
  have e0 := (ld_gV hp (Nat.zero_le 1) st.a)
  have e1 := (ld_gL hp (Nat.zero_le 1) st.a)
  have e2 := (ld_gV hp (le_refl 1) st.a)
  have e3 := (ld_gL hp (le_refl 1) st.a)
  have e : tileOut _ _ _ _ = tileOut _ _ _ _ := congr (congr (congr (congrArg tileOut e0) e1) e2) e3
  exact congrArg (fun w => (⟨pO oo ho st.o w, st.s, st.x, st.m, st.a⟩ : St F)) e

theorem Has.finish {sl p p' : ℕ} {hsl : sl ≤ 1} {hp : p ≤ 1} {hp' : p' ≤ 1} {S X M A B o} {st : St F}
    (H : Has sl p p' hsl hp hp' S X M A B o st) (oo : Fin 3 → ℕ) (ho : InO oo) :
    Has sl p p' hsl hp hp' S X M A B (pO oo ho o (tileRes B)) (finishF oo ho p' hp' st) := by
  rw [finishF_eq]
  refine ⟨H.s0, H.s1, H.x0, H.x1, H.m0, H.m1, H.a0, H.a1, H.b0, H.b1, ?_⟩
  have e : tileRes ![gA hp' (Nat.zero_le 1) st.a, gA hp' (le_refl 1) st.a] = tileRes B := by
    unfold tileRes
    simp only [Matrix.cons_val_zero, Matrix.cons_val_one, Matrix.cons_val_fin_one, H.b0, H.b1]
  simp only [e, H.o']

/-- The running maxima and the accumulators a tile starts from. -/
def startM : Fin 2 → Vec F S1x1x512 .f32 := ![gR (Nat.zero_le 1) (k0_pay2 (F := F)), gR (le_refl 1) (k0_pay2 (F := F))]
def startA : Fin 2 → Vec F S1x1x80x512 .f32 := ![gZ (Nat.zero_le 1) (k0_pay3 (F := F)), gZ (le_refl 1) (k0_pay3 (F := F))]

theorem resetF_eq (p : ℕ) (hp : p ≤ 1) (st : St F) :
    resetF p hp st = ⟨st.o, st.s, st.x, rR0.overlay st.m (k0_pay2 (F := F)), pA0 hp st.a (k0_pay3 (F := F))⟩ := rfl

theorem Has.reset {sl p p' : ℕ} {hsl : sl ≤ 1} {hp : p ≤ 1} {hp' : p' ≤ 1} {S X M A B o} {st : St F}
    (H : Has sl p p' hsl hp hp' S X M A B o st) (hpp : p ≠ p') :
    Has sl p p' hsl hp hp' S X startM startA B o (resetF p hp st) := by
  rw [resetF_eq]
  constructor
  · exact H.s0
  · exact H.s1
  · exact H.x0
  · exact H.x1
  · exact gR_reset _ _ _
  · exact gR_reset _ _ _
  · simp only [gA_pA0, startA, Matrix.cons_val_zero]
  · simp only [gA_pA0, startA, Matrix.cons_val_one, Matrix.cons_val_fin_one]
  · simp only [gA_pA0_ne _ _ _ hpp, H.b0]
  · simp only [gA_pA0_ne _ _ _ hpp, H.b1]
  · exact H.o'

/-- The other parity in turn. -/
theorem Has.swap {sl p p' : ℕ} {hsl : sl ≤ 1} {hp : p ≤ 1} {hp' : p' ≤ 1} {S X M A B o} {st : St F}
    (H : Has sl p p' hsl hp hp' S X M A B o st) : Has sl p' p hsl hp' hp S X M B A o st :=
  ⟨H.s0, H.s1, H.x0, H.x1, H.m0, H.m1, H.b0, H.b1, H.a0, H.a1, H.o'⟩

end Steps

end Cert.KernelIdeal.Steps
end
-- ==== Proof.Loop.lean ====
/-
  The body of a grid point from its first load to its last store: the sixteen chunks of a tile, the eight tiles.
-/
module

public import proofs.«01_k».proof.Proof.Tile

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ (UR sig nD τ) ℕ

/-! ## The fold over a tile's chunks -/

section Fold

variable (Q : Vec F S1x192x4096 .bf16) (K : Vec F S1x4096x256 .bf16) (V : Vec F S1x128x4096 .bf16)

/-- Where chunk `n` begins. -/
abbrev cOff (n : ℕ) : ℕ := 256 * (n % 16)
theorem cOff_le (n : ℕ) : cOff n ≤ 3840 := by have := Nat.mod_lt n (show 16 > 0 by decide); show 256 * (n % 16) ≤ 3840; omega

/-- The scores of tile `t` against chunk `n`, and their maxima. -/
def sc (t : ℕ) (ht : t ≤ 7) (n : ℕ) : Fin 2 → Vec F S1x1x256x512 .f32 :=
  ![scoreOut (gQ (qOff t 0) (inQ_tile ht (Nat.zero_le 1)) Q) (gK (cOff_le n) (Nat.zero_le 128) K),
    scoreOut (gQ (qOff t 1) (inQ_tile ht (le_refl 1)) Q) (gK (cOff_le n) (le_refl 128) K)]
def mx (t : ℕ) (ht : t ≤ 7) (n : ℕ) : Fin 2 → Vec F S1x1x1x512 .f32 :=
  ![maxOut (gQ (qOff t 0) (inQ_tile ht (Nat.zero_le 1)) Q) (gK (cOff_le n) (Nat.zero_le 128) K),
    maxOut (gQ (qOff t 1) (inQ_tile ht (le_refl 1)) Q) (gK (cOff_le n) (le_refl 128) K)]
/-- The values of chunk `n`. -/
def vs (n : ℕ) : Fin 2 → Vec F S1x64x256 .bf16 := ![gVt (Nat.zero_le 64) (cOff_le n) V, gVt (le_refl 64) (cOff_le n) V]

/-- The running maxima after `n` chunks. -/
def foldM (t : ℕ) (ht : t ≤ 7) : ℕ → Fin 2 → Vec F S1x1x512 .f32
  | 0 => startM
  | n + 1 => ![runMax (foldM t ht n 0) (mx Q K t ht n 0), runMax (foldM t ht n 1) (mx Q K t ht n 1)]
/-- The accumulators after `n` chunks. -/
def foldA (t : ℕ) (ht : t ≤ 7) : ℕ → Fin 2 → Vec F S1x1x80x512 .f32
  | 0 => startA
  | n + 1 => ![accOut (foldM Q K t ht n 0) (mx Q K t ht n 0) (sc Q K t ht n 0) (vs V n 0) (foldA t ht n 0),
      accOut (foldM Q K t ht n 1) (mx Q K t ht n 1) (sc Q K t ht n 1) (vs V n 1) (foldA t ht n 1)]

theorem sc_congr {t u : ℕ} (h : t = u) (ht : t ≤ 7) (hu : u ≤ 7) (n : ℕ) : sc Q K t ht n = sc Q K u hu n := by subst h; rfl
theorem mx_congr {t u : ℕ} (h : t = u) (ht : t ≤ 7) (hu : u ≤ 7) (n : ℕ) : mx Q K t ht n = mx Q K u hu n := by subst h; rfl

/-- The rows of tile `t` of the result block. -/
def gO (t : ℕ) (ht : t ≤ 7) (X : Vec F S1x4096x128 .bf16) : Vec F S1x512x128 .bf16 := ld X (rO _ (inO_tile ht))

theorem gO_pO (t : ℕ) (ht : t ≤ 7) (X : Vec F S1x4096x128 .bf16) (w : Vec F S1x512x128 .bf16) : gO t ht (pO _ (inO_tile ht) X w) = w := by
  unfold gO pO
  exact ld_self (Val := Elt F) (e := .bf16) (rO _ (inO_tile ht)) X w

theorem gO_ne (t t' : ℕ) (ht : t ≤ 7) (ht' : t' ≤ 7) (hne : t ≠ t') (X : Vec F S1x4096x128 .bf16) (w : Vec F S1x512x128 .bf16) :
    gO t' ht' (pO _ (inO_tile ht) X w) = gO t' ht' X := by
  unfold gO pO
  have := ld_apart (e := .bf16) (Val := Elt F) (inO_tile ht) (inO_tile ht') X w (1 : Fin 3)
  refine this ?_
  show 512 * t + 512 ≤ 512 * t' ∨ 512 * t' + 512 ≤ 512 * t; omega

/-- What tile `t` comes out as. -/
def tileAt (t : ℕ) (ht : t ≤ 7) : Vec F S1x512x128 .bf16 := tileRes (foldA Q K V t ht 16)

/-- A row of the result block, counted within its tile. -/
def within (y : S1x4096x128.Idx) : S1x512x128.Idx := fun a => match a with
  | ⟨0, _⟩ => (⟨0, by decide⟩ : Fin 1)
  | ⟨1, _⟩ => (⟨(y 1).val % 512, Nat.mod_lt _ (by decide)⟩ : Fin 512)
  | ⟨2, _⟩ => (⟨(y 2).val, (y 2).isLt⟩ : Fin 128)

/-- What the body leaves in the result block. -/
def outBlk : Vec F S1x4096x128 .bf16 := fun y =>
  tileAt Q K V ((y 1).val / 512) (by have : (y 1).val < 4096 := (y 1).isLt; omega)
    (within y)

theorem eq_outBlk (X : Vec F S1x4096x128 .bf16) (h : ∀ t (ht : t ≤ 7), gO t ht X = tileAt Q K V t ht) : X = outBlk Q K V := by
  funext y
  have hy : (y 1).val < 4096 := (y 1).isLt
  have ht : (y 1).val / 512 ≤ 7 := by omega
  unfold outBlk
  rw [← h _ ht]
  unfold gO
  refine congrArg X (funext fun a => Fin.ext ?_)
  fin_cases a
  · show (y 0).val = 0 + 1 * 0
    have : (y 0).val < 1 := (y 0).isLt
    omega
  · show (y 1).val = 512 * ((y 1).val / 512) + 1 * ((y 1).val % 512)
    omega
  · show (y 2).val = 0 + 1 * (y 2).val
    omega

/-- The accumulators of the tile before tile `t`; before the first, ones. -/
def onesA : Fin 2 → Vec F S1x1x80x512 .f32 := ![gA (le_refl 1) (Nat.zero_le 1) (k0_pay589 (F := F)), gA (le_refl 1) (le_refl 1) (k0_pay589 (F := F))]
def prevA : ∀ t : ℕ, t ≤ 8 → Fin 2 → Vec F S1x1x80x512 .f32
  | 0, _ => onesA
  | t + 1, ht => foldA Q K V t (Nat.le_of_succ_le_succ ht) 16

/-- The state before tile `t`. -/
def Before (t : ℕ) (ht : t ≤ 8) (p p' : ℕ) (hp : p ≤ 1) (hp' : p' ≤ 1) (st : St F) : Prop :=
  (∃ M A, Has 0 p p' (Nat.zero_le 1) hp hp' (sc Q K (min t 7) (Nat.min_le_right _ _) 0) (mx Q K (min t 7) (Nat.min_le_right _ _) 0) M A
    (prevA Q K V t ht) st.o st) ∧ ∀ u (hu : u ≤ 7), u + 1 < t → gO u hu st.o = tileAt Q K V u hu

end Fold

/-! ## The triples -/

section Sound

variable (B : Bufs F)

/-- The buffers owned at some contents of which `φ` holds. -/
def ex (φ : St F → Prop) : sProp 𝕄 := iprop(∃ st, ⌜φ st⌝ ∗ hold B st)

theorem ex_step {α : Type} {φ : St F → Prop} {R : α → sProp 𝕄} {p : Prog (TpuEff nD τ sig (Elt F) Λ₀ .tc) α}
    (h : ∀ st, φ st → hold B st ⊢ wp frame (wpE (defs₀ (F := F)) Variants.none B.c none) Set.univ p R) :
    ex B φ ⊢ wp frame (wpE (defs₀ (F := F)) Variants.none B.c none) Set.univ p R := by
  unfold ex
  iintro ⟨%st, %hst, H⟩
  iapply (h st hst) $$ H

theorem ex_intro' {φ : St F → Prop} {st : St F} (h : φ st) : hold B st ⊢ ex B φ := by
  unfold ex
  iintro H
  iexists st
  isplitr
  · ipureintro; exact h
  iexact H

theorem ex_mono {φ ψ : St F → Prop} (h : ∀ st, φ st → ψ st) : ex B φ ⊢ ex B ψ := by
  unfold ex
  iintro ⟨%st, %hst, H⟩
  iexists st
  isplitr
  · ipureintro; exact h st hst
  iexact H

theorem ex_of {α : Type} {φ ψ : St F → Prop} {f : St F → St F} {p : Prog (TpuEff nD τ sig (Elt F) Λ₀ .tc) α}
    (hs : ∀ st, hold B st ⊢ wp frame (wpE (defs₀ (F := F)) Variants.none B.c none) Set.univ p fun _ => hold B (f st)) (h : ∀ st, φ st → ψ (f st)) :
    ex B φ ⊢ wp frame (wpE (defs₀ (F := F)) Variants.none B.c none) Set.univ p fun _ => ex B ψ :=
  ex_step B fun st hst => (hs st).trans (wp_mono _ _ _ fun _ => ex_intro' B (h st hst))

/-- Within tile `t`: `n` chunks folded, slot `sl` holding the scores of chunk `n`. -/
def Mid (t : ℕ) (ht : t ≤ 7) (n sl p p' : ℕ) (hsl : sl ≤ 1) (hp : p ≤ 1) (hp' : p' ≤ 1) (A : Fin 2 → Vec F S1x1x80x512 .f32) (o : Vec F S1x4096x128 .bf16)
    (st : St F) : Prop :=
  Has sl p p' hsl hp hp' (sc B.Q B.K t ht n) (mx B.Q B.K t ht n) (foldM B.Q B.K t ht n) (foldA B.Q B.K B.V t ht n) A o st

theorem mid_chunk {t : ℕ} {ht : t ≤ 7} {n sl sl' p p' : ℕ} {hsl : sl ≤ 1} {hsl' : sl' ≤ 1} {hp : p ≤ 1} {hp' : p' ≤ 1} {A : Fin 2 → Vec F S1x1x80x512 .f32}
    {o : Vec F S1x4096x128 .bf16} (hs : sl ≠ sl') (hpp : p ≠ p') {q0 : Fin 3 → ℕ} {hq0 : InQ q0} {q1 : Fin 3 → ℕ} {hq1 : InQ q1} {kr kc : ℕ} {hkr : kr ≤ 3840} {hkc : kc ≤ 3840}
    (e0 : q0 = qOff t 0) (e1 : q1 = qOff t 1) (er : kr = cOff (n + 1)) (ec : kc = cOff n) :
    ex B (Mid B t ht n sl' p p' hsl' hp hp' A o) ⊢ wp frame (wpE (defs₀ (F := F)) Variants.none B.c none) Set.univ
      (chunkP (F := F) B.a2 B.a3 B.a4 B.a6 B.a7 B.a8 B.a9 q0 hq0 q1 hq1 kr kc sl sl' p hkr hkc hsl hsl' hp)
      fun _ => ex B (Mid B t ht (n + 1) sl p p' hsl hp hp' A o) := by
  subst e0 e1 er ec
  exact ex_of B (chunk_sound B _ _ _ _ _ _ _ _ _ _ _ _ _ _) fun st H => Has.chunk B.Q B.K B.V H hs hpp _ _ _ _ _ _ _ _

theorem mid_last {t t' : ℕ} {ht : t ≤ 7} {ht' : t' ≤ 7} {p p' : ℕ} {hp : p ≤ 1} {hp' : p' ≤ 1} {A : Fin 2 → Vec F S1x1x80x512 .f32}
    {o : Vec F S1x4096x128 .bf16} (hpp : p ≠ p') {q0 : Fin 3 → ℕ} {hq0 : InQ q0} {q1 : Fin 3 → ℕ} {hq1 : InQ q1}
    (e0 : q0 = qOff t' 0) (e1 : q1 = qOff t' 1) {kr kc sl sl' : ℕ} {hkr : kr ≤ 3840} {hkc : kc ≤ 3840} {hsl : sl ≤ 1} {hsl' : sl' ≤ 1} (hs : sl ≠ sl')
    (er : kr = cOff 0) (ec : kc = cOff 15) :
    ex B (Mid B t ht 15 sl' p p' hsl' hp hp' A o) ⊢ wp frame (wpE (defs₀ (F := F)) Variants.none B.c none) Set.univ
      (chunkP (F := F) B.a2 B.a3 B.a4 B.a6 B.a7 B.a8 B.a9 q0 hq0 q1 hq1 kr kc sl sl' p hkr hkc hsl hsl' hp)
      fun _ => ex B (Has sl p p' hsl hp hp' (sc B.Q B.K t' ht' 0) (mx B.Q B.K t' ht' 0) (foldM B.Q B.K t ht 16) (foldA B.Q B.K B.V t ht 16) A o) := by
  subst e0 e1 er ec
  exact ex_of B (chunk_sound B _ _ _ _ _ _ _ _ _ _ _ _ _ _) fun st H => Has.chunk B.Q B.K B.V H hs hpp _ _ _ _ _ _ _ _

/-- One tile. -/
theorem tile_sound {t p p' : ℕ} (ht : t ≤ 7) (hp : p ≤ 1) (hp' : p' ≤ 1) (hpp : p ≠ p') {q0 : Fin 3 → ℕ} {hq0 : InQ q0} {q1 : Fin 3 → ℕ} {hq1 : InQ q1}
    {n0 : Fin 3 → ℕ} {hn0 : InQ n0} {n1 : Fin 3 → ℕ} {hn1 : InQ n1} {oo : Fin 3 → ℕ} {ho : InO oo}
    {hpk : (Rect.unit (s := S1x4096x128) oo S1x512x128.size ho).PackedRows (EltTy.packing .bf16)}
    (e0 : q0 = qOff t 0) (e1 : q1 = qOff t 1) (f0 : n0 = qOff (min (t + 1) 7) 0) (f1 : n1 = qOff (min (t + 1) 7) 1) (eo : oo = ![0, 512 * (t - 1), 0]) :
    ex B (Before B.Q B.K B.V t (Nat.le_succ_of_le ht) p p' hp hp') ⊢ wp frame (wpE (defs₀ (F := F)) Variants.none B.c none) Set.univ
      (tileP (F := F) B.a2 B.a3 B.a4 B.a5 B.h5 B.a6 B.a7 B.a8 B.a9 q0 hq0 q1 hq1 n0 hn0 n1 hn1 oo ho hpk p p' hp hp')
      fun _ => ex B (Before B.Q B.K B.V (t + 1) (Nat.succ_le_succ ht) p' p hp' hp) := by
  have h01 : (0 : ℕ) ≠ 1 := by decide
  have h10 : (1 : ℕ) ≠ 0 := by decide
  refine ex_step B fun st ⟨⟨M, A, H⟩, ho'⟩ => ?_
  have emin : min t 7 = t := Nat.min_eq_left ht
  unfold tileP
  refine (ex_intro' B (φ := fun s => s = st) rfl).trans ?_
  refine seq_sound B (R := fun _ => ex B (Mid B t ht 0 0 p p' (Nat.zero_le 1) hp hp' (prevA B.Q B.K B.V t (Nat.le_succ_of_le ht)) st.o))
    (ex_of B (reset_sound B p hp) ?_) fun _ => ?_
  · rintro _ rfl
    have H' := H.reset hpp
    rw [sc_congr B.Q B.K emin _ ht, mx_congr B.Q B.K emin _ ht] at H'
    exact H'
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (R := fun _ => ex B (Mid B t ht 2 0 p p' (Nat.zero_le 1) hp hp' (prevA B.Q B.K B.V t (Nat.le_succ_of_le ht))
    (pO oo ho st.o (tileRes (prevA B.Q B.K B.V t (Nat.le_succ_of_le ht))))))
    (ex_of B (finish_sound B oo ho hpk p' hp') fun s hs => Has.finish hs oo ho) fun _ => ?_
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (mid_chunk B (hsl := le_refl 1) h10 hpp e0 e1 rfl rfl) fun _ => ?_
  refine seq_sound B (mid_chunk B (hsl := Nat.zero_le 1) h01 hpp e0 e1 rfl rfl) fun _ => ?_
  refine seq_sound B (mid_chunk B (hsl := le_refl 1) h10 hpp e0 e1 rfl rfl) fun _ => ?_
  refine (mid_last B (ht' := Nat.min_le_right _ _) hpp f0 f1 h01 rfl rfl).trans (wp_mono _ _ _ fun _ => ex_mono B fun s hs => ?_)
  have eo' := hs.o'
  unfold Before
  refine ⟨⟨foldM B.Q B.K t ht 16, prevA B.Q B.K B.V t (Nat.le_succ_of_le ht), ?_⟩, ?_⟩
  · rw [eo']; exact hs.swap
  · intro u hu hlt
    rw [eo']
    subst eo
    cases t with
    | zero => omega
    | succ t =>
      by_cases hut : u = t
      · subst hut
        exact gO_pO u hu _ _
      · exact (gO_ne t u (Nat.le_of_succ_le ht) hu (Ne.symm hut) _ _).trans (ho' u hu (by omega))

/-! ## The offsets of a trip -/

theorem off1_eq (j : Fin k0_t1_loop.trips) (r : Fin 2) : k0_off1 j (BitVec.ofNat 32 r.val) = qOff (2 * j.val + r.val) 0 := by
  rw [k0_off1_eq]; show ![0, 0, 1024 * j.val + 512 * r.val] = ![0, 96 * 0, 512 * (2 * j.val + r.val)]
  rw [show 512 * (2 * j.val + r.val) = 1024 * j.val + 512 * r.val by omega]
theorem off2_eq (j : Fin k0_t1_loop.trips) (r : Fin 2) : k0_off2 j (BitVec.ofNat 32 r.val) = qOff (2 * j.val + r.val) 1 := by
  rw [k0_off2_eq]; show ![0, 96, 1024 * j.val + 512 * r.val] = ![0, 96 * 1, 512 * (2 * j.val + r.val)]
  rw [show 512 * (2 * j.val + r.val) = 1024 * j.val + 512 * r.val by omega]
theorem off4_eq (j : Fin k0_t1_loop.trips) (r : Fin 2) : k0_off4 j (BitVec.ofNat 32 r.val) = qOff (min (2 * j.val + r.val + 1) 7) 0 := by
  rw [k0_off4_eq]
theorem off5_eq (j : Fin k0_t1_loop.trips) (r : Fin 2) : k0_off5 j (BitVec.ofNat 32 r.val) = qOff (min (2 * j.val + r.val + 1) 7) 1 := by
  rw [k0_off5_eq]
theorem off3_eq : ∀ (j : Fin k0_t1_loop.trips) (r : Fin 2), k0_off3 j (BitVec.ofNat 32 r.val) = ![0, 512 * (2 * j.val + r.val - 1), 0] := by
  decide +kernel

theorem trips_eq : k0_t1_loop.trips = 4 := by decide +kernel

/-- The state before trip `k`. -/
def Inv (k : ℕ) (st : St F) : Prop := ∃ hk : 2 * k ≤ 8, Before B.Q B.K B.V (2 * k) hk 0 1 (Nat.zero_le 1) (le_refl 1) st

theorem wp_done {φ ψ : St F → Prop} (h : ∀ st, φ st → ψ st) {α : Type} (a : α) :
    ex B φ ⊢ wp frame (wpE (defs₀ (F := F)) Variants.none B.c none) Set.univ (Prog.ret a) fun _ => ex B ψ := by
  rw [wp_ret]
  iintro H
  imodintro
  iapply (ex_mono B h) $$ H

theorem trip_sound (j : Fin k0_t1_loop.trips) (u : Unit) :
    ex B (Inv B j.val) ⊢ wp frame (wpE (defs₀ (F := F)) Variants.none B.c none) Set.univ
      (tripP (F := F) B.a2 B.a3 B.a4 B.a5 B.h5 B.a6 B.a7 B.a8 B.a9 j u) fun _ => ex B (Inv B (j.val + 1)) := by
  have hj : j.val < 4 := trips_eq ▸ j.isLt
  unfold tripP
  refine (ex_mono B (ψ := Before B.Q B.K B.V (2 * j.val) (by omega) 0 1 (Nat.zero_le 1) (le_refl 1)) (fun st h => h.2)).trans ?_
  refine seq_sound B (tile_sound B (t := 2 * j.val) (by omega) (Nat.zero_le 1) (le_refl 1) (by decide) (off1_eq j 0) (off2_eq j 0) (off4_eq j 0)
    (off5_eq j 0) (off3_eq j 0)) fun _ => ?_
  refine seq_sound B (tile_sound B (t := 2 * j.val + 1) (by omega) (le_refl 1) (Nat.zero_le 1) (by decide) (off1_eq j 1) (off2_eq j 1) (off4_eq j 1)
    (off5_eq j 1) (off3_eq j 1)) fun _ => ?_
  exact wp_done B (fun st h => ⟨by omega, h⟩) _

end Sound

end Cert.KernelIdeal.Steps
end
-- ==== Proof.Body.lean ====
/-
  The body of a grid point from its first load to its last store.
-/
module

public import proofs.«01_k».proof.Proof.Loop

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ (UR sig nD τ) ℕ

section Sound

variable (B : Bufs F)

theorem ones_eq (X w : Vec F S2x2x80x512 .f32) :
    (Rect.unit (s := S2x2x80x512) ![0, 0, 0, 0] S2x2x80x512.size inb_S2x2x80x512_S2x2x80x512_0_0_0_0).overlay X w = w := by
  refine Eq.trans ?_ (ld_self (Val := Elt F) (e := .f32) (Rect.unit (s := S2x2x80x512) ![0, 0, 0, 0] S2x2x80x512.size inb_S2x2x80x512_S2x2x80x512_0_0_0_0) X w)
  funext y
  refine congrArg _ (funext fun a => Fin.ext ?_)
  fin_cases a
  · show (y 0).val = 0 + 1 * (y 0).val; omega
  · show (y 1).val = 0 + 1 * (y 1).val; omega
  · show (y 2).val = 0 + 1 * (y 2).val; omega
  · show (y 3).val = 0 + 1 * (y 3).val; omega

/-- The accumulators' store of ones. -/
theorem ones_sound (st : St F) {Q : PUnit → sProp 𝕄} {k : PUnit → Prog (TpuEff nD τ sig (Elt F) Λ₀ .tc) PUnit}
    (hk : hold B ⟨st.o, st.s, st.x, st.m, k0_pay589 (F := F)⟩ ⊢ wp frame (wpE (defs₀ (F := F)) Variants.none B.c none) Set.univ (k ⟨⟩) Q) :
    hold B st ⊢ wp frame (wpE (defs₀ (F := F)) Variants.none B.c none) Set.univ
      (Prog.lift (.load B.a9 (Rect.unit (s := S2x2x80x512) ![0, 0, 0, 0] S2x2x80x512.size inb_S2x2x80x512_S2x2x80x512_0_0_0_0).toLoadRect (View.loadsAt_vmem h_S2x2x80x512)) >>= fun _a : Vec F S2x2x80x512 .f32 =>
      Prog.lift (.store B.a9 (Rect.unit (s := S2x2x80x512) ![0, 0, 0, 0] S2x2x80x512.size inb_S2x2x80x512_S2x2x80x512_0_0_0_0) (k0_pay589 (F := F)) Finset.univ (View.stores_vmem_bits_univ h_S2x2x80x512 rfl) (.inl rfl)) >>= k) Q := by
  refine BIBase.Entails.trans ?_ (wp_mono _ _ _ fun _ => .rfl)
  unfold hold at *
  iintro ⟨H2, H3, H4, H5, H6, H7, H8, H9⟩
  simp only [Prog.bind_lift]
  iapply (wp_ld B.c) $$ H9; iintro H9
  iapply (wp_st B.c) $$ H9; iintro H9
  rw [ones_eq]
  iapply hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sc_at {q0 q1 : Fin 3 → ℕ} {hq0 : InQ q0} {hq1 : InQ q1} {kr : ℕ} {hkr : kr ≤ 3840} {t n : ℕ} (ht : t ≤ 7) (e0 : q0 = qOff t 0) (e1 : q1 = qOff t 1)
    (er : kr = cOff n) :
    (scoreOut (gQ q0 hq0 B.Q) (gK hkr (Nat.zero_le 128) B.K) = sc B.Q B.K t ht n 0 ∧ scoreOut (gQ q1 hq1 B.Q) (gK hkr (le_refl 128) B.K) = sc B.Q B.K t ht n 1)
      ∧ maxOut (gQ q0 hq0 B.Q) (gK hkr (Nat.zero_le 128) B.K) = mx B.Q B.K t ht n 0 ∧ maxOut (gQ q1 hq1 B.Q) (gK hkr (le_refl 128) B.K) = mx B.Q B.K t ht n 1 := by
  subst e0 e1 er
  unfold sc mx
  simp only [Matrix.cons_val_zero, Matrix.cons_val_one, Matrix.cons_val_fin_one, and_self]

theorem first_state (st : St F) :
    Inv B 0 ⟨st.o,
      (scoresF B.Q B.K ![0, 96, 0] inb_S1x192x4096_S1x96x512_0_96_0 0 128 0 1 (by decide) (by decide) (by decide) (by decide)
        (scoresF B.Q B.K ![0, 0, 0] inb_S1x192x4096_S1x96x512_0_0_0 0 0 0 0 (by decide) (by decide) (by decide) (by decide) st)).s,
      (scoresF B.Q B.K ![0, 96, 0] inb_S1x192x4096_S1x96x512_0_96_0 0 128 0 1 (by decide) (by decide) (by decide) (by decide)
        (scoresF B.Q B.K ![0, 0, 0] inb_S1x192x4096_S1x96x512_0_0_0 0 0 0 0 (by decide) (by decide) (by decide) (by decide) st)).x,
      st.m, k0_pay589 (F := F)⟩ := by
  have h10 : (1 : ℕ) ≠ 0 := by decide
  refine ⟨by decide, ⟨![gR (Nat.zero_le 1) st.m, gR (le_refl 1) st.m],
    ![gA (Nat.zero_le 1) (Nat.zero_le 1) (k0_pay589 (F := F)), gA (Nat.zero_le 1) (le_refl 1) (k0_pay589 (F := F))], ?_⟩, fun u _ h => absurd h (by omega)⟩
  rw [sc_congr B.Q B.K (show min (2 * 0) 7 = 0 from rfl) _ (Nat.zero_le 7), mx_congr B.Q B.K (show min (2 * 0) 7 = 0 from rfl) _ (Nat.zero_le 7)]
  obtain ⟨⟨s0, s1⟩, x0, x1⟩ := sc_at B (hq0 := inb_S1x192x4096_S1x96x512_0_0_0) (hq1 := inb_S1x192x4096_S1x96x512_0_96_0) (hkr := Nat.zero_le 3840) (t := 0) (n := 0)
    (Nat.zero_le 7) rfl rfl rfl
  simp only [scoresF_eq]
  constructor
  · simp only [gS_ne _ _ _ _ (.inr h10), gS_pS]; exact s0
  · simp only [gS_pS]; exact s1
  · simp only [gM_ne _ _ _ _ (.inr h10), gM_pM]; exact x0
  · simp only [gM_pM]; exact x1
  · simp only [Matrix.cons_val_zero]
  · simp only [Matrix.cons_val_one, Matrix.cons_val_fin_one]
  · simp only [Matrix.cons_val_zero]
  · simp only [Matrix.cons_val_one, Matrix.cons_val_fin_one]
  · show _ = onesA 0
    simp only [onesA, Matrix.cons_val_zero]
  · show _ = onesA 1
    simp only [onesA, Matrix.cons_val_one, Matrix.cons_val_fin_one]
  · rfl

/-- The invariant as the loop rule takes it, and its steps. -/
def invL (k : ℕ) (_ : Unit) : sProp 𝕄 := ex B (Inv B k)

theorem trip_step (k : Fin k0_t1_loop.trips) (u : Unit) :
    invL B k.val u ⊢ wp frame (wpE (defs₀ (F := F)) Variants.none B.c none) Set.univ
      (tripP (F := F) B.a2 B.a3 B.a4 B.a5 B.h5 B.a6 B.a7 B.a8 B.a9 k u) (invL B (k.val + 1)) := by
  have h := trip_sound B k u
  unfold invL
  convert h using 4

theorem inv_end (u : Unit) : invL B k0_t1_loop.trips u ⊢ ex B (Inv B 4) :=
  ex_mono B fun st h => Eq.mp (congrArg (fun n => Inv B n st) trips_eq) h

/-- A loop of any bounds whose trips keep an invariant ends with it. -/
theorem for_keeps (l : Scf.Loop 32) (ok : l.OK)
    (body : Fin l.trips → Unit → Prog (TpuEff nD τ sig (Elt F) Λ₀ (B.c : Thread nD τ).2) Unit)
    (I : ℕ → Unit → sProp 𝕄)
    (hb : ∀ k u, I k.val u ⊢ wp frame (wpE (defs₀ (F := F)) Variants.none B.c none) Set.univ (body k u) (I (k.val + 1))) :
    I 0 ⟨⟩ ⊢ wp frame (wpE (defs₀ (F := F)) Variants.none B.c none) Set.univ (Scf.Loop.for l ok ⟨⟩ body) (I l.trips) := by
  have h := Scf.wp_for frame (wpE (defs₀ (F := F)) Variants.none (B.c : Thread nD τ) none) Set.univ l.lb l.ub l.st ok (⟨⟩ : Unit)
    body I hb (Q := I l.trips)
  refine BIBase.Entails.trans ?_ h
  iintro H
  isplitl [H]
  · iexact H
  iintro %acc H
  iexact H

/-- The four trips. -/
theorem loop_sound :
    ex B (Inv B 0) ⊢ wp frame (wpE (defs₀ (F := F)) Variants.none B.c none) Set.univ
      (Scf.Loop.for k0_t1_loop k0_t1_ok ⟨⟩ (tripP (F := F) B.a2 B.a3 B.a4 B.a5 B.h5 B.a6 B.a7 B.a8 B.a9)) fun _ => ex B (Inv B 4) := by
  refine BIBase.Entails.trans (for_keeps B k0_t1_loop k0_t1_ok _ (invL B) (trip_step B)) ?_
  exact wp_mono _ _ _ fun u => inv_end B u

/-- The body: from any contents of the buffers to the result block at what the tiles come out as. -/
theorem bodyP_sound (st : St F) :
    hold B st ⊢ wp frame (wpE (defs₀ (F := F)) Variants.none B.c none) Set.univ
      (bodyP (F := F) B.a2 B.a3 B.a4 B.a5 B.h5 B.a6 B.a7 B.a8 B.a9) fun _ => ex B fun s => s.o = outBlk B.Q B.K B.V := by
  unfold bodyP
  refine seq_sound B (scores_sound B _ _ _ _ _ _ _ _ _ _ st) fun _ => ?_
  refine seq_sound B (scores_sound B _ _ _ _ _ _ _ _ _ _ _) fun _ => ?_
  refine ones_sound B _ (k := fun _ => _) ?_
  refine (ex_intro' B (first_state B st)).trans ?_
  refine seq_sound B (R := fun _ => ex B (Inv B 4)) ?_ fun _ => ?_
  · exact loop_sound B
  refine ex_of B (finish_sound B ![0, 3584, 0] inb_S1x4096x128_S1x512x128_0_3584_0 packedbf16_S1x4096x128_S1x512x128_0_3584_0 1 (le_refl 1)) ?_
  rintro s ⟨_, ⟨M, A, H⟩, hr⟩
  have H' := (H.finish ![0, 3584, 0] inb_S1x4096x128_S1x512x128_0_3584_0).o'
  refine eq_outBlk B.Q B.K B.V _ fun t ht => ?_
  rw [H']
  by_cases h7 : t = 7
  · subst h7
    exact gO_pO 7 ht _ _
  · exact (gO_ne 7 t (le_refl 7) ht (Ne.symm h7) _ _).trans (hr t ht (by omega))

end Sound

end Cert.KernelIdeal.Steps
end
-- ==== Proof.StepsEq.lean ====
/-
  The printed body and its loop's printed trip are the steps of `Steps.lean`: effect by effect, over any float type.
-/
module

public import proofs.«01_k».proof.Proof.Steps

@[expose] public section

namespace Cert.KernelIdeal.Steps

open Cert.KernelIdeal Cert.KernelIdeal.Gen
open Idealize.ShloMosaic Idealize.ShloMosaic.TcCoe Idealize.SL.Sem

variable {F : FTy → Type} [FloatOps F]

/-- Two programs that begin with one effect are equal if they go on equally. -/
theorem op_next.{v} {E : Type → Type v} {α β : Type} {e e' : E β} {k k' : β → Prog E α} (he : e = e') (h : ∀ x, k x = k' x) :
    Prog.op e k = Prog.op e' k' := by subst he; exact congrArg _ (funext h)

set_option maxRecDepth 65536
set_option maxHeartbeats 0

/-- A printed trip is the trip by steps. -/
theorem trip_eq (i : grid0.Coords) (arg2 : Memref sig .tc .vmem S1x192x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S2x2x256x512 .f32) (harg6 : arg6.IsWhole) (arg7 : Memref sig .tc .vmem S2x2x1x512 .f32) (harg7 : arg7.IsWhole) (arg8 : Memref sig .tc .vmem S2x1x512 .f32) (harg8 : arg8.IsWhole) (arg9 : Memref sig .tc .vmem S2x2x80x512 .f32) (harg9 : arg9.IsWhole) (v29 : FVec F S256x512 .f32)
    (j : Fin k0_t1_loop.trips) (u : Unit) :
    k0_t1_body i arg2 harg2 arg3 harg3 arg4 harg4 arg5 harg5 arg6 harg6 arg7 harg7 arg8 harg8 arg9 harg9 v29 j u
      = tripP arg2 arg3 arg4 arg5 harg5 arg6 arg7 arg8 arg9 j u := by
  iterate 980
    conv => lhs; whnf
    conv => rhs; whnf
    refine op_next ?_ fun _ => ?_
    · rfl
  rfl

/-- Two programs that begin with one loop are equal if the bodies are and they go on equally. -/
theorem loop_next {β γ : Type} {b b' : Fin k0_t1_loop.trips → Unit → Prog (TpuEff nD τ sig (Elt F) Λ₀ .tc) Unit}
    {k : Unit → Prog (TpuEff nD τ sig (Elt F) Λ₀ .tc) β} {l : β → Prog (TpuEff nD τ sig (Elt F) Λ₀ .tc) γ}
    {k' : Unit → Prog (TpuEff nD τ sig (Elt F) Λ₀ .tc) γ} (hb : ∀ j u, b j u = b' j u) (h : ∀ x, Prog.bind (k x) l = k' x) :
    Prog.bind (Prog.bind (Scf.Loop.for k0_t1_loop k0_t1_ok ⟨⟩ b) k) l = Prog.bind (Scf.Loop.for k0_t1_loop k0_t1_ok ⟨⟩ b') k' := by
  have e : b = b' := funext fun j => funext (hb j)
  have e' : k' = fun x => Prog.bind (k x) l := funext fun x => (h x).symm
  subst e; subst e'
  exact Prog.bind_assoc _ _ _

/-- The printed body is the body by steps. -/
theorem body_eq (i : grid0.Coords) (arg2 : Memref sig .tc .vmem S1x192x4096 .bf16) (harg2 : arg2.IsWhole) (arg3 : Memref sig .tc .vmem S1x4096x256 .bf16) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S2x2x256x512 .f32) (harg6 : arg6.IsWhole) (arg7 : Memref sig .tc .vmem S2x2x1x512 .f32) (harg7 : arg7.IsWhole) (arg8 : Memref sig .tc .vmem S2x1x512 .f32) (harg8 : arg8.IsWhole) (arg9 : Memref sig .tc .vmem S2x2x80x512 .f32) (harg9 : arg9.IsWhole) :
    cc0_mla_attention (F := F) i arg2 harg2 arg3 harg3 arg4 harg4 arg5 harg5 arg6 harg6 arg7 harg7 arg8 harg8 arg9 harg9
      = bodyP arg2 arg3 arg4 arg5 harg5 arg6 arg7 arg8 arg9 := by
  iterate 14
    conv => lhs; whnf
    conv => rhs; whnf
    refine op_next ?_ fun _ => ?_
    · rfl
  refine loop_next (fun j u => trip_eq i arg2 harg2 arg3 harg3 arg4 harg4 arg5 harg5 arg6 harg6 arg7 harg7 arg8 harg8 arg9 harg9 (scoreMat ‹Vec F S1x96x512 .bf16› ‹Vec F S1x256x128 .bf16›) j u) fun _ => ?_
  iterate 6
    conv => lhs; whnf
    conv => rhs; whnf
    refine op_next ?_ fun _ => ?_
    · rfl
  rfl

end Cert.KernelIdeal.Steps
-- ==== Proof.Run.lean ====
/-
  The kernel's run: the body at every grid point, the launch, the frame; over any float type.
-/
module

public import proofs.«01_k».proof.Proof.Body
public import proofs.«01_k».proof.Proof.StepsEq
public import Idealize.ShloMosaic.Lib.Claim

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves in the result's block: the tiles of the point's queries, keys and values. -/
def blkOut (c : Dev nD) (t : Fin cfg0.N) : Vec F S1x4096x128 .bf16 := outBlk (iblk m c 0 t) (iblk m c 1 t) (iblk m c 2 t)

/-- The pipeline's proof data: the inputs' blocks stay, the result's block is `blkOut`, the scratch is at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Between points: the four scratch buffers at some contents, the generator register at some state. -/
theorem scratch_eq (c : Dev nD) :
    (Pipeline.ΦA (U := UR sig nD τ) (Val := Elt F) spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
        ∗ ∃ r, prngReg c r) := by
  unfold Pipeline.ΦA
  rw [scopedRest0_eq]; simp only [owns_whole]; try rfl

/-- The body's triple as the point meets it. -/
theorem kernel_sound (c : Dev nD) (i : grid0.Coords) (arg2 : Memref sig .tc .vmem S1x192x4096 .bf16) (harg2 : arg2.IsWhole)
    (arg3 : Memref sig .tc .vmem S1x4096x256 .bf16) (harg3 : arg3.IsWhole) (arg4 : Memref sig .tc .vmem S1x128x4096 .bf16) (harg4 : arg4.IsWhole)
    (arg5 : Memref sig .tc .vmem S1x4096x128 .bf16) (harg5 : arg5.IsWhole) (arg6 : Memref sig .tc .vmem S2x2x256x512 .f32) (harg6 : arg6.IsWhole)
    (arg7 : Memref sig .tc .vmem S2x2x1x512 .f32) (harg7 : arg7.IsWhole) (arg8 : Memref sig .tc .vmem S2x1x512 .f32) (harg8 : arg8.IsWhole)
    (arg9 : Memref sig .tc .vmem S2x2x80x512 .f32) (harg9 : arg9.IsWhole) (Q : Vec F S1x192x4096 .bf16) (K : Vec F S1x4096x256 .bf16) (V : Vec F S1x128x4096 .bf16)
    (R : sProp 𝕄) (k : PUnit → sProp 𝕄)
    (hk : iprop(R ∗ (owns (c : Thread nD τ) arg2 fullShare Q ∗ owns (c : Thread nD τ) arg3 fullShare K ∗ owns (c : Thread nD τ) arg4 fullShare V
        ∗ owns (c : Thread nD τ) arg5 fullShare (outBlk Q K V) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d))) ⊢ k ⟨⟩) :
    iprop(R ∗ (owns (c : Thread nD τ) arg2 fullShare Q ∗ owns (c : Thread nD τ) arg3 fullShare K ∗ owns (c : Thread nD τ) arg4 fullShare V
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)))
      ⊢ wp frame (wpE (defs₀ (F := F)) Variants.none c none) Set.univ
          (cc0_mla_attention (F := F) i arg2 harg2 arg3 harg3 arg4 harg4 arg5 harg5 arg6 harg6 arg7 harg7 arg8 harg8 arg9 harg9) k := by
  rw [body_eq]
  iintro ⟨HR, H2, H3, H4, ⟨%d5, H5⟩, ⟨%d6, H6⟩, ⟨%d7, H7⟩, ⟨%d8, H8⟩, ⟨%d9, H9⟩⟩
  iapply (wp_wand_r frame (wpE (defs₀ (F := F)) Variants.none (c : Thread nD τ) none) Set.univ)
  isplitr [HR]
  · iapply (bodyP_sound ⟨c, arg2, arg3, arg4, arg5, harg5, arg6, arg7, arg8, arg9, Q, K, V⟩ ⟨d5, d6, d7, d8, d9⟩)
    unfold hold
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %u H
  unfold ex hold
  icases H with ⟨%st, %hst, H2, H3, H4, H5, H6, H7, H8, H9⟩
  rw [hst]
  iapply hk
  isplitl [HR]; · iexact HR
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem point_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq, after0_0, after0_1, after0_2, after0_3]
  iintro ⟨⟨⟨S0, S1, S2, S3⟩, Hg⟩, Ho, ⟨%d0, H0⟩, ⟨%d1, H1⟩, ⟨%d2, H2⟩, ⟨%d3, H3⟩⟩
  iapply (kernel_sound c _ _ _ _ _ _ _ _ _ _ _ _ _ _ _ _ _ (iblk m c 0 t) (iblk m c 1 t) (iblk m c 2 t)
    iprop((∃ r, prngReg c r) ∗ (dats m 0 c).owesAt () t.castSucc) _ ?_)
  · iintro ⟨⟨Hg, Ho⟩, H0, H1, H2, H3, S0, S1, S2, S3⟩
    isplitl [Hg S0 S1 S2 S3]
    · isplitr [Hg]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    iexact H3
  isplitl [Hg Ho]
  · isplitl [Hg]; · iexact Hg
    iexact Ho
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iexact S3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (point_sound m c t) rfl .rfl fun _ => .rfl

/-! ## The run and the frame -/

-- the launch rule's implicit arguments are found by unifying its conclusion with this one
set_option backward.isDefEq.respectTransparency.types false in
/-- The launch: every array as the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Steps
end
-- ==== Proof.Frames.lean ====
/-
  The frames of the three programs: arguments unchanged, every counter at zero.
  The printed kernel and its idealization have one text, so the run over any float type serves both.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

theorem frame_ideal : Cert.quiescent_KernelIdeal := fun m ρ _ => Cert.KernelIdeal.Steps.frame_run (F := Ideal) m ρ

/-- The two programs' bodies agree, label by label. -/
theorem defs₀_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig)
    (Val := Elt F) (Λ := Cert.KernelIdeal.Λ₀)) ?_
  refine funext fun ℓ => funext fun a => ?_
  match ℓ, a with
  | 0, (t, s) => rfl

theorem defs_eq {F : FTy → Type} [FloatOps F] : Cert.Kernel.defs (F := F) = Cert.KernelIdeal.defs (F := F) :=
  congrArg (Pipeline.defs (Cert.KernelIdeal.pcfgs (F := F))) defs₀_eq

set_option maxRecDepth 16384 in
theorem frame_kernel : Cert.quiescent_Kernel := fun m ρ _ => by
  have h := Cert.KernelIdeal.Steps.frame_run (F := Bits) m ρ
  rw [← defs_eq] at h
  exact h

/-- The reference declares no semaphore, so every counter of its final state is zero. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

end Cert.Proof

end
-- ==== Proof.Finite.lean ====
/-
  The precondition read back: the queries and the keys are real numbers.
-/
module

public import proofs.«01_k».proof.Pre_finite_qk
public import Idealize.ShloMosaic.Lib.ReduceAll
public import Idealize.ShloMosaic.PureOps.Ideal.Laws

@[expose] public section

set_option maxRecDepth 16384

noncomputable section

namespace Cert.Pre_finite_qk

open Idealize.ShloMosaic

theorem facts : Facts where
  bcast_S_S16x4096x12x64 := by decide
  reducesTo_S16x4096x12x64_S_d0_1_2_3 := by decide
  h_S_ := by decide
  bcast_S_S16x4096x12x32 := by decide
  reducesTo_S16x4096x12x32_S_d0_1_2_3 := by decide
  bcast_S_S16x4096x32 := by decide
  reducesTo_S16x4096x32_S_d0_1_2 := by decide

theorem inf_word : Ideal.ofBits .f32 0x7F800000#32 = ⊤ := by simp [Ideal.ofBits, Ideal.ieee]

/-- A value whose magnitude is below plus infinity is a real number. -/
theorem real_of_lt (x : EReal) (h : Ideal.cmp .olt (max x (-x)) (⊤ : EReal) = 1#1) : ∃ r : ℝ, x = (r : EReal) := by
  induction x
  · simp [Ideal.cmp] at h
  · exact ⟨_, rfl⟩
  · simp [Ideal.cmp] at h

variable [hf : Facts]

/-- All elements of an array pass the test of the precondition: each is a real number. -/
theorem real_of_all {s : Shape} (x : FVec Ideal s .f32) (hb : S_.BroadcastsInDim s (![] : Fin 0 → Fin s.rank)) {axes : List (Fin s.rank)}
    (hr : s.ReducesTo axes S_) (j : S_.Idx)
    (h : Host.reduce IntOp.andi (cmpf .olt (Host.absf x) (broadcastInDim s ![] hb (constant (F := Ideal) S_ .f32 0x7F800000#32)))
      (constantI S_ 1 1#1) hr Facts.h_S_ j = 1#1) (i : s.Idx) : ∃ r : ℝ, x i = (r : EReal) := by
  haveI : Subsingleton S_.Idx := ⟨fun a b => funext fun k => k.elim0⟩
  have h1 := Host.reduce_andi_all _ _ hr _ j h i
  refine real_of_lt (x i) ?_
  rw [← inf_word]
  exact h1

theorem real_of_pre (a0 : FVec Ideal S16x4096x12x64 .f32) (a1 : FVec Ideal S16x4096x12x32 .f32) (a2 : FVec Ideal S16x4096x12x64 .f32)
    (a3 : FVec Ideal S16x4096x32 .f32) (a4 : FVec Ideal S16x4096x12x64 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ ∀ i, ∃ r : ℝ, a3 i = (r : EReal) := by
  have h0 := congrFun h (fun k => k.elim0)
  unfold fn fn_part1 at h0
  dsimp only at h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ h0, real_of_all a1 _ _ _ h1, real_of_all a2 _ _ _ h2, real_of_all a3 _ _ _ h3⟩

end Cert.Pre_finite_qk

end
-- ==== Proof.Softmax.lean ====
/-
  The mathematics of the running softmax: chunk after chunk of scores, a running maximum and an accumulator rescaled to
  it, against the softmax taken over all the scores at once.
-/
module

public import Idealize.ShloMosaic.PureOps.Ideal
public import Idealize.ShloMosaic.PureOps.Ideal.Laws

@[expose] public section

noncomputable section

namespace Cert.Proof.Softmax

open Idealize.ShloMosaic

/-- The maximum after `n` chunks of 256 scores, from minus infinity. -/
def runM (s : ℕ → EReal) : ℕ → EReal
  | 0 => ⊥
  | n + 1 => max (runM s n) (Finset.univ.fold max ⊥ fun i : Fin 256 => s (256 * n + i))

/-- The accumulator after `n` chunks, weights relative to the running maximum. -/
def runA (s v : ℕ → EReal) : ℕ → EReal
  | 0 => 0
  | n + 1 => Ideal.exp2 (runM s n - runM s (n + 1)) * runA s v n
      + ∑ i : Fin 256, v (256 * n + i) * Ideal.exp2 (s (256 * n + i) - runM s (n + 1))

/-- A nonnegative real distributes over a sum of extended reals. -/
theorem mul_sum_real {ι : Type} (S : Finset ι) (c : ℝ) (hc : 0 ≤ c) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The maximum of finitely many reals, one at least, is a real that bounds them. -/
theorem fold_max_coe {ι : Type} (S : Finset ι) (hS : S.Nonempty) (f : ι → ℝ) :
    S.fold max ⊥ (fun i => ((f i : ℝ) : EReal)) = ((S.sup' hS f : ℝ) : EReal) := by
  classical
  refine le_antisymm ?_ ?_
  · rw [Finset.fold_max_le]
    exact ⟨bot_le, fun i hi => EReal.coe_le_coe_iff.2 (Finset.le_sup' f hi)⟩
  · obtain ⟨i, hi, h⟩ := Finset.exists_mem_eq_sup' hS f
    rw [h, Finset.le_fold_max]
    exact .inr ⟨i, hi, le_refl _⟩

section Run

variable (y : ℕ → ℝ) (v : ℕ → EReal)

theorem exp2_sub (a b : ℝ) : Ideal.exp2 ((a : EReal) - (b : EReal)) = (((2 : ℝ) ^ (a - b) : ℝ) : EReal) := by
  rw [← EReal.coe_sub]; rfl

/-- A chunk's maximum is a real. -/
theorem chunk_max (n : ℕ) : ∃ m : ℝ, (Finset.univ.fold max ⊥ fun i : Fin 256 => ((y (256 * n + i) : ℝ) : EReal)) = (m : EReal) :=
  ⟨_, fold_max_coe Finset.univ Finset.univ_nonempty _⟩

/-- The running maximum after `n + 1` chunks is a real. -/
theorem runM_succ (n : ℕ) : ∃ m : ℝ, runM (fun j => (y j : EReal)) (n + 1) = (m : EReal) := by
  induction n with
  | zero =>
    obtain ⟨c, hc⟩ := chunk_max y 0
    refine ⟨c, ?_⟩
    show max ⊥ (Finset.univ.fold max ⊥ fun i : Fin 256 => ((y (256 * 0 + i) : ℝ) : EReal)) = _
    rw [hc, max_eq_right bot_le]
  | succ n ih =>
    obtain ⟨m, hm⟩ := ih
    obtain ⟨c, hc⟩ := chunk_max y (n + 1)
    refine ⟨max m c, ?_⟩
    show max (runM _ (n + 1)) (Finset.univ.fold max ⊥ fun i : Fin 256 => ((y (256 * (n + 1) + i) : ℝ) : EReal)) = _
    rw [hc, hm]
    exact (EReal.coe_strictMono.monotone.map_max).symm

/-- The accumulator after `n + 1` chunks: every value so far under its weight. -/
theorem runA_succ (n : ℕ) (m : ℝ) (hm : runM (fun j => (y j : EReal)) (n + 1) = (m : EReal)) :
    runA (fun j => (y j : EReal)) v (n + 1) = ∑ j ∈ Finset.range (256 * (n + 1)), v j * (((2 : ℝ) ^ (y j - m) : ℝ) : EReal) := by
  induction n generalizing m with
  | zero =>
    show Ideal.exp2 _ * 0 + ∑ i : Fin 256, v (256 * 0 + i) * Ideal.exp2 ((y (256 * 0 + i) : EReal) - runM _ (0 + 1)) = _
    rw [hm, mul_zero, zero_add, show 256 * (0 + 1) = 256 from rfl, Finset.sum_range]
    refine Finset.sum_congr rfl fun i _ => ?_
    rw [exp2_sub]; simp only [Nat.mul_zero, Nat.zero_add]
  | succ n ih =>
    obtain ⟨m', hm'⟩ := runM_succ y n
    show Ideal.exp2 (runM _ (n + 1) - runM _ (n + 1 + 1)) * runA _ v (n + 1)
      + ∑ i : Fin 256, v (256 * (n + 1) + i) * Ideal.exp2 ((y (256 * (n + 1) + i) : EReal) - runM _ (n + 1 + 1)) = _
    rw [hm, hm', ih m' hm', exp2_sub, mul_sum_real _ _ (by positivity), show 256 * (n + 1 + 1) = 256 * (n + 1) + 256 from by ring,
      Finset.sum_range_add, Finset.sum_range (n := 256)]
    refine congrArg₂ _ (Finset.sum_congr rfl fun j _ => ?_) (Finset.sum_congr rfl fun i _ => ?_)
    · rw [mul_left_comm, ← EReal.coe_mul, ← Real.rpow_add (by norm_num)]
      congr 3; ring
    · rw [exp2_sub]

end Run

/-- Weights to base two relative to any `m`, over their sum, are the softmax's weights. -/
theorem weights_eq {N : ℕ} (hN : 0 < N) (y : ℕ → ℝ) (v : ℕ → EReal) (m : ℝ) :
    (∑ j : Fin N, v j * (((2 : ℝ) ^ (y j - m) : ℝ) : EReal)) * Ideal.div 1 (∑ j : Fin N, 1 * (((2 : ℝ) ^ (y j - m) : ℝ) : EReal))
      = ∑ j : Fin N, v j * Ideal.div (Ideal.exp (((y j * Real.log 2 : ℝ) : EReal)
            - Finset.univ.fold max ⊥ fun k : Fin N => ((y k * Real.log 2 : ℝ) : EReal)))
          (∑ j : Fin N, Ideal.exp (((y j * Real.log 2 : ℝ) : EReal) - Finset.univ.fold max ⊥ fun k : Fin N => ((y k * Real.log 2 : ℝ) : EReal))) := by
  have hne : (Finset.univ : Finset (Fin N)).Nonempty := ⟨⟨0, hN⟩, Finset.mem_univ _⟩
  obtain ⟨M, hM⟩ : ∃ M : ℝ, (Finset.univ.fold max ⊥ fun k : Fin N => ((y k * Real.log 2 : ℝ) : EReal)) = (M : EReal) :=
    ⟨_, fold_max_coe Finset.univ hne _⟩
  rw [hM]
  have hw : ∀ j, Ideal.exp (((y j * Real.log 2 : ℝ) : EReal) - (M : EReal)) = ((Real.exp (y j * Real.log 2 - M) : ℝ) : EReal) := fun j => by
    rw [← EReal.coe_sub, Ideal.exp_coe]
  simp only [hw, one_mul]
  rw [sum_coe, sum_coe]
  set L : ℝ := ∑ j : Fin N, (2 : ℝ) ^ (y j - m) with hL
  set S : ℝ := ∑ j : Fin N, Real.exp (y j * Real.log 2 - M) with hS
  have hLpos : 0 < L := Finset.sum_pos (fun j _ => by positivity) hne
  have hSpos : 0 < S := Finset.sum_pos (fun j _ => Real.exp_pos _) hne
  -- the two families of weights differ by one factor
  have hfac : ∀ j : ℕ, (2 : ℝ) ^ (y j - m) = Real.exp (M - m * Real.log 2) * Real.exp (y j * Real.log 2 - M) := fun j => by
    rw [← Real.exp_add, Real.rpow_def_of_pos (by norm_num)]
    congr 1; ring
  have hLS : L = Real.exp (M - m * Real.log 2) * S := by
    rw [hL, hS, Finset.mul_sum]
    exact Finset.sum_congr rfl fun j _ => hfac j
  rw [Ideal.div_coe hLpos.ne', one_mul, mul_comm, mul_sum_real _ _ (by positivity)]
  refine Finset.sum_congr rfl fun j _ => ?_
  rw [Ideal.div_coe hSpos.ne', mul_left_comm, ← EReal.coe_mul, ← EReal.coe_mul, hfac, hLS]
  congr 2
  have := Real.exp_ne_zero (M - m * Real.log 2)
  field_simp

/-- The running softmax over sixteen chunks: the last accumulator over the accumulator of ones. -/
theorem run_eq (y : ℕ → ℝ) (v : ℕ → EReal) :
    runA (fun j => (y j : EReal)) v 16 * Ideal.div 1 (runA (fun j => (y j : EReal)) (fun _ => 1) 16)
      = ∑ j : Fin 4096, v j * Ideal.div (Ideal.exp (((y j * Real.log 2 : ℝ) : EReal)
            - Finset.univ.fold max ⊥ fun k : Fin 4096 => ((y k * Real.log 2 : ℝ) : EReal)))
          (∑ j : Fin 4096, Ideal.exp (((y j * Real.log 2 : ℝ) : EReal) - Finset.univ.fold max ⊥ fun k : Fin 4096 => ((y k * Real.log 2 : ℝ) : EReal))) := by
  obtain ⟨m, hm⟩ := runM_succ y 15
  rw [runA_succ y v 15 m hm, runA_succ y (fun _ => 1) 15 m hm, Finset.sum_range, Finset.sum_range]
  exact weights_eq (N := 4096) (by norm_num) y v m

end Cert.Proof.Softmax

end
-- ==== Proof.Block.lean ====
/-
  What a tile of queries comes out as, read at an index at the extended reals: the running softmax of its scores.
-/
module

public import proofs.«01_k».proof.Proof.Loop
public import proofs.«01_k».proof.Proof.Softmax
public import Idealize.ShloMosaic.Lib.Pointwise

@[expose] public section

set_option maxRecDepth 16384

noncomputable section

namespace Cert.KernelIdeal.Steps

open Cert.KernelIdeal Cert.KernelIdeal.Gen
open Idealize.ShloMosaic
open Cert.Proof.Softmax

theorem ofBits_neg_inf : Ideal.ofBits .f32 0xFF800000#32 = ⊥ := by simp [Ideal.ofBits, Ideal.ieee]

/-! ## What is stored, at an index -/

theorem scoreOut_apply (q : Vec Ideal S1x96x512 .bf16) (k : Vec Ideal S1x256x128 .bf16) (j : Fin 256) (i : Fin 512) :
    scoreOut q k (ix4 0 0 j i) = ∑ d : Fin 96, k (ix3 0 j ⟨d.val, by omega⟩) * q (ix3 0 d i) := by
  unfold scoreOut
  pointwise [k0_pay5, k0_pay4]
  simp only [mul_zero, Finset.sum_const_zero, add_zero]

theorem maxOut_apply (q : Vec Ideal S1x96x512 .bf16) (k : Vec Ideal S1x256x128 .bf16) (i : Fin 512) :
    maxOut q k (ix4 0 0 0 i) = Finset.univ.fold max ⊥ fun j : Fin 256 => scoreOut q k (ix4 0 0 j i) := by
  unfold maxOut scoreOut
  pointwise [k0_pay7, k0_pay6, k0_pay5]
  rw [ofBits_neg_inf]

theorem runMax_apply (mo : Vec Ideal S1x1x512 .f32) (mx : Vec Ideal S1x1x1x512 .f32) (i : Fin 512) :
    runMax mo mx (ix3 0 0 i) = max (mo (ix3 0 0 i)) (mx (ix4 0 0 0 i)) := by
  unfold runMax
  pointwise [k0_pay10, k0_pay9, k0_pay8]

theorem accOut_apply (mo : Vec Ideal S1x1x512 .f32) (mx : Vec Ideal S1x1x1x512 .f32) (s : Vec Ideal S1x1x256x512 .f32)
    (v : Vec Ideal S1x64x256 .bf16) (a : Vec Ideal S1x1x80x512 .f32) (d : Fin 80) (i : Fin 512) :
    accOut mo mx s v a (ix4 0 0 d i)
      = Ideal.exp2 (mo (ix3 0 0 i) - runMax mo mx (ix3 0 0 i)) * a (ix4 0 0 d i)
        + ∑ j : Fin 256, (if h : d.val < 64 then v (ix3 0 ⟨d.val, h⟩ j) else 1) * Ideal.exp2 (s (ix4 0 0 j i) - runMax mo mx (ix3 0 0 i)) := by
  rw [runMax_apply]
  unfold accOut
  pointwise [k0_pay12, k0_pay11, k0_pay9, k0_pay8]
  rfl

theorem tileOut_apply (a0 : Vec Ideal S1x1x64x512 .f32) (l0 : Vec Ideal S1x1x1x512 .f32) (a1 : Vec Ideal S1x1x64x512 .f32) (l1 : Vec Ideal S1x1x1x512 .f32)
    (i : Fin 512) (d : Fin 128) :
    tileOut a0 l0 a1 l1 (ix3 0 i d) = if h : d.val < 64 then a0 (ix4 0 0 ⟨d.val, h⟩ i) * Ideal.div 1 (l0 (ix4 0 0 0 i))
      else a1 (ix4 0 0 ⟨d.val - 64, by omega⟩ i) * Ideal.div 1 (l1 (ix4 0 0 0 i)) := by
  unfold tileOut
  pointwise [k0_pay1, k0_pay590, k0_pay591]

/-! ## The fold, at a lane -/

section Fold

variable (Q : Vec Ideal S1x192x4096 .bf16) (K : Vec Ideal S1x4096x256 .bf16) (V : Vec Ideal S1x128x4096 .bf16)

/-- Head `h`'s score of query `r` with key `j`. -/
def blkS (h : Fin 2) (r : Fin 4096) (j : ℕ) : EReal :=
  ∑ d : Fin 96, K (ix3 0 ⟨j % 4096, Nat.mod_lt _ (by decide)⟩ ⟨128 * h.val + d.val, by omega⟩) * Q (ix3 0 ⟨96 * h.val + d.val, by omega⟩ r)

/-- Value `d` of head `h` at key `j`. -/
def blkV (h : Fin 2) (d : Fin 64) (j : ℕ) : EReal := V (ix3 0 ⟨64 * h.val + d.val, by omega⟩ ⟨j % 4096, Nat.mod_lt _ (by decide)⟩)

/-- Query `i` of tile `t`. -/
def row (t : ℕ) (ht : t ≤ 7) (i : Fin 512) : Fin 4096 := ⟨512 * t + i.val, by omega⟩

theorem startM_apply (h : Fin 2) (i : Fin 512) : startM (F := Ideal) h (ix3 0 0 i) = ⊥ := by
  revert h
  rw [Fin.forall_fin_two]
  constructor
  · show gR (F := Ideal) (Nat.zero_le 1) (k0_pay2 (F := Ideal)) (ix3 0 0 i) = _
    pointwise [gR, k0_pay2]
    rw [ofBits_neg_inf]
  · show gR (F := Ideal) (le_refl 1) (k0_pay2 (F := Ideal)) (ix3 0 0 i) = _
    pointwise [gR, k0_pay2]
    rw [ofBits_neg_inf]

theorem startA_apply (h : Fin 2) (d : Fin 80) (i : Fin 512) : startA (F := Ideal) h (ix4 0 0 d i) = 0 := by
  revert h
  rw [Fin.forall_fin_two]
  constructor
  · show gZ (F := Ideal) (Nat.zero_le 1) (k0_pay3 (F := Ideal)) (ix4 0 0 d i) = _
    pointwise [gZ, k0_pay3]
  · show gZ (F := Ideal) (le_refl 1) (k0_pay3 (F := Ideal)) (ix4 0 0 d i) = _
    pointwise [gZ, k0_pay3]

theorem sc_zero (t : ℕ) (ht : t ≤ 7) (n : ℕ) : sc Q K t ht n 0
    = scoreOut (gQ (qOff t 0) (inQ_tile ht (Nat.zero_le 1)) Q) (gK (cOff_le n) (Nat.zero_le 128) K) := by
  simp only [sc, Matrix.cons_val_one, Matrix.cons_val_zero, Matrix.cons_val_fin_one]
theorem sc_one (t : ℕ) (ht : t ≤ 7) (n : ℕ) : sc Q K t ht n 1
    = scoreOut (gQ (qOff t 1) (inQ_tile ht (le_refl 1)) Q) (gK (cOff_le n) (le_refl 128) K) := by
  simp only [sc, Matrix.cons_val_one, Matrix.cons_val_zero, Matrix.cons_val_fin_one]
theorem mx_zero (t : ℕ) (ht : t ≤ 7) (n : ℕ) : mx Q K t ht n 0
    = maxOut (gQ (qOff t 0) (inQ_tile ht (Nat.zero_le 1)) Q) (gK (cOff_le n) (Nat.zero_le 128) K) := by
  simp only [mx, Matrix.cons_val_one, Matrix.cons_val_zero, Matrix.cons_val_fin_one]
theorem mx_one (t : ℕ) (ht : t ≤ 7) (n : ℕ) : mx Q K t ht n 1
    = maxOut (gQ (qOff t 1) (inQ_tile ht (le_refl 1)) Q) (gK (cOff_le n) (le_refl 128) K) := by
  simp only [mx, Matrix.cons_val_one, Matrix.cons_val_zero, Matrix.cons_val_fin_one]

theorem sc_apply (t : ℕ) (ht : t ≤ 7) (n : ℕ) (hn : n < 16) (h : Fin 2) (j : Fin 256) (i : Fin 512) :
    sc Q K t ht n h (ix4 0 0 j i) = blkS Q K h (row t ht i) (256 * n + j.val) := by
  have e : (256 * n + j.val) % 4096 = 256 * (n % 16) + j.val := by omega
  unfold blkS
  revert h
  rw [Fin.forall_fin_two]
  constructor
  · rw [sc_zero, scoreOut_apply]
    refine Finset.sum_congr rfl fun d _ => ?_
    unfold gK gQ row
    pointwise
    simp only [e]
  · rw [sc_one, scoreOut_apply]
    refine Finset.sum_congr rfl fun d _ => ?_
    unfold gK gQ row
    pointwise
    simp only [e]

theorem vs_apply (n : ℕ) (hn : n < 16) (h : Fin 2) (d : Fin 64) (j : Fin 256) :
    vs V n h (ix3 0 d j) = blkV V h d (256 * n + j.val) := by
  have e : (256 * n + j.val) % 4096 = 256 * (n % 16) + j.val := by omega
  unfold blkV
  revert h
  rw [Fin.forall_fin_two]
  constructor
  · show gVt _ _ V _ = _
    unfold gVt
    pointwise
    simp only [e]
  · show gVt _ _ V _ = _
    unfold gVt
    pointwise
    simp only [e]

theorem mx_apply (t : ℕ) (ht : t ≤ 7) (n : ℕ) (h : Fin 2) (i : Fin 512) :
    mx Q K t ht n h (ix4 0 0 0 i) = Finset.univ.fold max ⊥ fun j : Fin 256 => sc Q K t ht n h (ix4 0 0 j i) := by
  revert h
  rw [Fin.forall_fin_two]
  constructor
  · rw [sc_zero, mx_zero, maxOut_apply]
  · rw [sc_one, mx_one, maxOut_apply]

theorem foldM_succ (t : ℕ) (ht : t ≤ 7) (n : ℕ) (h : Fin 2) :
    foldM Q K t ht (n + 1) h = runMax (foldM Q K t ht n h) (mx Q K t ht n h) := by
  fin_cases h <;> rfl
theorem foldA_succ (t : ℕ) (ht : t ≤ 7) (n : ℕ) (h : Fin 2) :
    foldA Q K V t ht (n + 1) h = accOut (foldM Q K t ht n h) (mx Q K t ht n h) (sc Q K t ht n h) (vs V n h) (foldA Q K V t ht n h) := by
  fin_cases h <;> rfl

theorem foldM_apply (t : ℕ) (ht : t ≤ 7) (h : Fin 2) (i : Fin 512) (n : ℕ) (hn : n ≤ 16) :
    foldM Q K t ht n h (ix3 0 0 i) = runM (blkS Q K h (row t ht i)) n := by
  induction n with
  | zero => exact startM_apply h i
  | succ n ih =>
    rw [foldM_succ, runMax_apply, ih (by omega), mx_apply]
    simp only [sc_apply Q K t ht n (by omega)]
    rfl

/-- The values' rows of the accumulator, and under them the rows of ones. -/
theorem foldA_apply (t : ℕ) (ht : t ≤ 7) (h : Fin 2) (i : Fin 512) (d : Fin 80) (n : ℕ) (hn : n ≤ 16) :
    foldA Q K V t ht n h (ix4 0 0 d i)
      = runA (blkS Q K h (row t ht i)) (if hd : d.val < 64 then blkV V h ⟨d.val, hd⟩ else fun _ => 1) n := by
  induction n with
  | zero => exact startA_apply h d i
  | succ n ih =>
    rw [foldA_succ, accOut_apply, ih (by omega), ← foldM_succ, foldM_apply Q K t ht h i n (by omega), foldM_apply Q K t ht h i (n + 1) hn]
    simp only [sc_apply Q K t ht n (by omega), vs_apply V n (by omega)]
    show _ + _ = _ + _
    congr 1
    refine Finset.sum_congr rfl fun j _ => ?_
    split <;> rfl

/-- The result block's entry: the running softmax of query `r` of head `d / 64`. -/
theorem outBlk_apply (r : Fin 4096) (h : Fin 2) (d : Fin 64) :
    outBlk Q K V (ix3 0 r ⟨64 * h.val + d.val, by omega⟩)
      = runA (blkS Q K h r) (blkV V h d) 16 * Ideal.div 1 (runA (blkS Q K h r) (fun _ => 1) 16) := by
  have hr : row (r.val / 512) (by omega) ⟨r.val % 512, Nat.mod_lt _ (by decide)⟩ = r := Fin.ext (by show 512 * (r.val / 512) + r.val % 512 = r.val; omega)
  have hw : within (ix3 0 r ⟨64 * h.val + d.val, by omega⟩) = ix3 0 ⟨r.val % 512, Nat.mod_lt _ (by decide)⟩ ⟨64 * h.val + d.val, by omega⟩ := by
    funext a; fin_cases a <;> rfl
  revert hw
  unfold outBlk
  revert h
  rw [Fin.forall_fin_two]
  constructor
  · intro hw
    rw [hw]
    show tileOut _ _ _ _ _ = _
    rw [tileOut_apply, dif_pos (by show 64 * 0 + d.val < 64; omega)]
    pointwise [gV, gL]
    rw [foldA_apply _ _ _ _ _ _ _ _ _ (le_refl 16), foldA_apply _ _ _ _ _ _ _ _ _ (le_refl 16), hr, dif_pos d.isLt,
      dif_neg (by decide)]
  · intro hw
    rw [hw]
    show tileOut _ _ _ _ _ = _
    rw [tileOut_apply, dif_neg (by show ¬ (64 * 1 + d.val < 64); omega)]
    pointwise [gV, gL]
    rw [foldA_apply _ _ _ _ _ _ _ _ _ (le_refl 16), foldA_apply _ _ _ _ _ _ _ _ _ (le_refl 16), hr, dif_pos d.isLt,
      dif_neg (by decide)]

end Fold

end Cert.KernelIdeal.Steps

end
-- ==== Proof.Heads.lean ====
/-
  The attention of one head from the packed queries, keys and values, as the kernel accumulates it.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Steps

open Cert.KernelIdeal Cert.KernelIdeal.Gen
open Idealize.ShloMosaic
open Cert.Proof.Softmax

/-- The score of query `r` and key `j` of head `h` of sequence `b`, in the packed layouts. -/
def arrS (Q : Vec Ideal S16x1152x4096 .bf16) (K : Vec Ideal S16x4096x1536 .bf16) (b : Fin 16) (h : Fin 12) (r : Fin 4096) (j : ℕ) : EReal :=
  ∑ d : Fin 96, K (ix3 b ⟨j % 4096, Nat.mod_lt _ (by decide)⟩ ⟨128 * h.val + d.val, by omega⟩) * Q (ix3 b ⟨96 * h.val + d.val, by omega⟩ r)

/-- Value `d` of head `h` of sequence `b` at key `j`. -/
def arrV (V : Vec Ideal S16x768x4096 .bf16) (b : Fin 16) (h : Fin 12) (d : Fin 64) (j : ℕ) : EReal :=
  V (ix3 b ⟨64 * h.val + d.val, by omega⟩ ⟨j % 4096, Nat.mod_lt _ (by decide)⟩)

/-- The attention of query `r`, head `h`, column `d`. -/
def arrO (Q : Vec Ideal S16x1152x4096 .bf16) (K : Vec Ideal S16x4096x1536 .bf16) (V : Vec Ideal S16x768x4096 .bf16)
    (b : Fin 16) (r : Fin 4096) (h : Fin 12) (d : Fin 64) : EReal :=
  runA (arrS Q K b h r) (arrV V b h d) 16 * Ideal.div 1 (runA (arrS Q K b h r) (fun _ => 1) 16)

/-- The result array. -/
def arrOut (Q : Vec Ideal S16x1152x4096 .bf16) (K : Vec Ideal S16x4096x1536 .bf16) (V : Vec Ideal S16x768x4096 .bf16) :
    Vec Ideal S16x4096x768 .bf16 :=
  fun i => arrO Q K V ⟨(i 0).val, (i 0).isLt⟩ ⟨(i 1).val, (i 1).isLt⟩ ⟨(i 2).val / 64, by have h : (i 2).val < 768 := (i 2).isLt; omega⟩
    ⟨(i 2).val % 64, Nat.mod_lt _ (by decide)⟩

end Cert.KernelIdeal.Steps

end
-- ==== Proof.Array.lean ====
/-
  What the kernel's result array holds, from the packed queries, keys and values: the running softmax of every head.
-/
module

public import proofs.«01_k».proof.Proof.Run
public import proofs.«01_k».proof.Proof.Block
public import proofs.«01_k».proof.Proof.Heads
public import Idealize.ShloMosaic.Lib.Pipeline.ValueKit

@[expose] public section

set_option maxRecDepth 16384

noncomputable section

namespace Cert.KernelIdeal.Steps

open Cert.KernelIdeal Cert.KernelIdeal.Gen
open Idealize.ShloMosaic Idealize.ShloMosaic.TcCoe
open Idealize.ShloMosaic.Pipeline (Dat)
open Cert.Proof.Softmax

theorem win_idx : ∀ t : Fin cfg0.N, win0_0.index t = ![t.val / 6, t.val % 6, 0] ∧ win0_1.index t = ![t.val / 6, 0, t.val % 6]
    ∧ win0_2.index t = ![t.val / 6, t.val % 6, 0] ∧ win0_3.index t = ![t.val / 6, 0, t.val % 6] :=
  (by decide +kernel : ∀ t : Fin grid0.N, _)

variable (m : (ℓ : Loc nD τ sig) → Buf (Elt Ideal) ℓ)

theorem t_lt (t : Fin cfg0.N) : t.val < 96 := (show cfg0.N = 96 from N_0) ▸ t.isLt

/-- The sequence of a grid point. -/
def seqOf (t : Fin cfg0.N) : Fin 16 := ⟨t.val / 6, by have := t_lt t; omega⟩
/-- The head of the layer that head `h` of a grid point is. -/
def headOf (t : Fin cfg0.N) (h : Fin 2) : Fin 12 := ⟨2 * (t.val % 6) + h.val, by omega⟩

theorem emb0 (t : Fin cfg0.N) (x : Fin 192) (y : Fin 4096) :
    (((cfg0.win 0).blk t).view.emb (ix3 0 x y)) = (ix3 (seqOf t) ⟨192 * (t.val % 6) + x.val, by omega⟩ y : S16x1152x4096.Idx) := by
  obtain ⟨e0, e1, e2, e3⟩ := win_idx t
  blk_ext [seqOf, e0]

theorem emb1 (t : Fin cfg0.N) (x : Fin 4096) (y : Fin 256) :
    (((cfg0.win 1).blk t).view.emb (ix3 0 x y)) = (ix3 (seqOf t) x ⟨256 * (t.val % 6) + y.val, by omega⟩ : S16x4096x1536.Idx) := by
  obtain ⟨e0, e1, e2, e3⟩ := win_idx t
  blk_ext [seqOf, e1]

theorem read0 (W : (b : Ref sig .tc) → b.ty.Contents (Elt Ideal)) (t : Fin cfg0.N) (x : Fin 192) (y : Fin 4096) :
    View.read (Elt Ideal) ((cfg0.win 0).blk t).view (W (Pipeline.arrRef spec0 0)) (ix3 0 x y)
      = W main_v9 (ix3 (seqOf t) ⟨192 * (t.val % 6) + x.val, by omega⟩ y) := by
  rw [← emb0]
  rfl

theorem read1 (W : (b : Ref sig .tc) → b.ty.Contents (Elt Ideal)) (t : Fin cfg0.N) (x : Fin 4096) (y : Fin 256) :
    View.read (Elt Ideal) ((cfg0.win 1).blk t).view (W (Pipeline.arrRef spec0 1)) (ix3 0 x y)
      = W main_v15 (ix3 (seqOf t) x ⟨256 * (t.val % 6) + y.val, by omega⟩) := by
  rw [← emb1]
  rfl

theorem iblk0_apply (c : Dev nD) (t : Fin cfg0.N) (x : Fin 192) (y : Fin 4096) :
    iblk m c 0 t (ix3 0 x y) = V m c main_v9 (ix3 (seqOf t) ⟨192 * (t.val % 6) + x.val, by omega⟩ y) :=
  read0 (V m c) t x y

theorem iblk1_apply (c : Dev nD) (t : Fin cfg0.N) (x : Fin 4096) (y : Fin 256) :
    iblk m c 1 t (ix3 0 x y) = V m c main_v15 (ix3 (seqOf t) x ⟨256 * (t.val % 6) + y.val, by omega⟩) :=
  read1 (V m c) t x y

theorem blkS_eq (c : Dev nD) (t : Fin cfg0.N) (h : Fin 2) (r : Fin 4096) :
    blkS (iblk m c 0 t) (iblk m c 1 t) h r = arrS (V m c main_v9) (V m c main_v15) (seqOf t) (headOf t h) r := by
  funext j
  unfold blkS arrS
  refine Finset.sum_congr rfl fun d _ => ?_
  rw [iblk0_apply, iblk1_apply]
  have hk : (⟨256 * (t.val % 6) + (128 * h.val + d.val), by omega⟩ : Fin 1536) = ⟨128 * (headOf t h).val + d.val, by unfold headOf; dsimp only; omega⟩ :=
    Fin.ext (by unfold headOf; dsimp only; omega)
  have hq : (⟨192 * (t.val % 6) + (96 * h.val + d.val), by omega⟩ : Fin 1152) = ⟨96 * (headOf t h).val + d.val, by unfold headOf; dsimp only; omega⟩ :=
    Fin.ext (by unfold headOf; dsimp only; omega)
  rw [hk, hq]

theorem blkV_eq (c : Dev nD) (t : Fin cfg0.N) (h : Fin 2) (d : Fin 64) :
    blkV (iblk m c 2 t) h d = arrV (V m c main_v18) (seqOf t) (headOf t h) d := by
  obtain ⟨e0, e1, e2, e3⟩ := win_idx t
  funext j
  unfold blkV arrV
  blk_ext [iblk, seqOf, headOf, e2]

theorem blkOut_apply (c : Dev nD) (t : Fin cfg0.N) (r : Fin 4096) (h : Fin 2) (d : Fin 64) :
    blkOut m c t (ix3 0 r ⟨64 * h.val + d.val, by omega⟩)
      = arrO (V m c main_v9) (V m c main_v15) (V m c main_v18) (seqOf t) r (headOf t h) d := by
  unfold blkOut
  rw [outBlk_apply, blkS_eq, blkV_eq]
  rfl

/-- The result array after the run. -/
theorem arr_eq (c : Dev nD) :
    (dats m 0 c).arrAt 3 cfg0.N = arrOut (V m c main_v9) (V m c main_v15) (V m c main_v18) := by
  refine (dats m 0 c).arrAt_eq_of_covers 3 _ (by decide +kernel) fun t hf y => ?_
  blk_simp
  rw [after0_3]
  obtain ⟨e0, e1, e2, e3⟩ := win_idx t
  idx_vars y
  have hy := y2.isLt
  have ht := t_lt t
  obtain rfl : y0 = 0 := Subsingleton.elim _ _
  have ey : y2 = ⟨64 * (⟨y2.val / 64, by omega⟩ : Fin 2).val + (⟨y2.val % 64, by omega⟩ : Fin 64).val, by dsimp only; omega⟩ :=
    Fin.ext (by dsimp only; omega)
  have ei : ((View.whole main_v19).slice (win0_3.rect t)).emb (ix3 0 y1 y2)
      = (ix3 (seqOf t) y1 ⟨128 * (t.val % 6) + y2.val, by omega⟩ : S16x4096x768.Idx) := by
    blk_ext [seqOf, e3]
  rw [ei, show (ix3 0 y1 y2 : S1x4096x128.Idx) = ix3 0 y1 ⟨64 * (⟨y2.val / 64, by omega⟩ : Fin 2).val + (⟨y2.val % 64, by omega⟩ : Fin 64).val, by dsimp only; omega⟩
    from congrArg (ix3 0 y1) ey, blkOut_apply]
  unfold arrOut
  congr 1
  · refine Fin.ext ?_
    show 2 * (t.val % 6) + y2.val / 64 = (128 * (t.val % 6) + y2.val) / 64
    omega
  · refine Fin.ext ?_
    show y2.val % 64 = (128 * (t.val % 6) + y2.val) % 64
    omega

end Cert.KernelIdeal.Steps

end
-- ==== Proof.Packed.lean ====
/-
  What the kernel's operands hold: the queries scaled and packed by head, the keys joined and padded, the values.
-/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Steps

open Cert.KernelIdeal Cert.KernelIdeal.Gen
open Idealize.ShloMosaic Idealize.ShloMosaic.TcCoe

variable (m : (ℓ : Loc nD τ sig) → Buf (Elt Ideal) ℓ)

/-- The values, one row per head and column. -/
def packV (x : FVec Ideal S16x4096x12x64 .f32) : FVec Ideal S16x768x4096 .bf16 :=
  transpose S16x768x4096 [0, 2, 1] (shapeCast S16x4096x768 (truncf (F := Ideal) .bf16 x bitsLt_bf16_f32) shapeCasts_S16x4096x12x64_S16x4096x768)
    transposes_S16x4096x768_S16x768x4096_0_2_1

theorem V_v18 (c : Dev nD) : V m c main_v18 = packV (m ((c : Thread nD τ).loc main_arg4)) := by
  entry_read
  rfl

theorem packV_apply (x : FVec Ideal S16x4096x12x64 .f32) (b : Fin 16) (h : Fin 12) (d : Fin 64) (k : Fin 4096) :
    packV x (ix3 b ⟨64 * h.val + d.val, by omega⟩ k) = x (ix4 b k h d) := by
  unfold packV
  pointwise

/-- The scale of the scores: one over the product of the logarithm of two and the square root of the width. -/
def scale : FVec Ideal S_ .f32 :=
  Host.divf (F := Ideal) (constant S_ .f32 0x3F800000#32) (mulf (Host.log (constant S_ .f32 0x40000000#32)) (Host.sqrt (constant S_ .f32 0x42C00000#32)))

/-- The queries: both parts joined, scaled, one row per head and column. -/
def packQ (x0 : FVec Ideal S16x4096x12x64 .f32) (x1 : FVec Ideal S16x4096x12x32 .f32) : FVec Ideal S16x1152x4096 .bf16 :=
  transpose S16x1152x4096 [0, 2, 1] (shapeCast S16x4096x1152 (truncf (F := Ideal) .bf16 (mulf (F := Ideal)
    (concatenate S16x4096x12x96 3 [⟨S16x4096x12x64, x0⟩, ⟨S16x4096x12x32, x1⟩] concatenates_S16x4096x12x64_S16x4096x12x32_S16x4096x12x96_d3)
    (broadcastInDim S16x4096x12x96 ![] bcast_S_S16x4096x12x96 scale)) bitsLt_bf16_f32) shapeCasts_S16x4096x12x96_S16x4096x1152)
    transposes_S16x4096x1152_S16x1152x4096_0_2_1

theorem V_v9 (c : Dev nD) : V m c main_v9 = packQ (m ((c : Thread nD τ).loc main_arg0)) (m ((c : Thread nD τ).loc main_arg1)) := by
  entry_read
  rfl

theorem packQ_apply (x0 : FVec Ideal S16x4096x12x64 .f32) (x1 : FVec Ideal S16x4096x12x32 .f32) (b : Fin 16) (h : Fin 12) (d : Fin 96) (q : Fin 4096) :
    packQ x0 x1 (ix3 b ⟨96 * h.val + d.val, by omega⟩ q)
      = (if hd : d.val < 64 then x0 (ix4 b q h ⟨d.val, hd⟩) else x1 (ix4 b q h ⟨d.val - 64, by omega⟩)) * scale (fun a => a.elim0) := by
  unfold packQ
  generalize scale = s
  pointwise
  rw [show (ix0 : S_.Idx) = fun a => a.elim0 from funext fun a => a.elim0]

/-- The keys: the head's own part, the part all heads share, and columns of zeros. -/
def packK (x2 : FVec Ideal S16x4096x12x64 .f32) (x3 : FVec Ideal S16x4096x32 .f32) : FVec Ideal S16x4096x1536 .bf16 :=
  shapeCast S16x4096x1536 (truncf (F := Ideal) .bf16 (concatenate S16x4096x12x128 3 [⟨S16x4096x12x64, x2⟩,
    ⟨S16x4096x12x32, broadcastInDim S16x4096x12x32 ![0, 1, 2, 3] bcast_S16x4096x1x32_S16x4096x12x32_0_1_2_3
      (broadcastInDim S16x4096x1x32 ![0, 1, 3] bcast_S16x4096x32_S16x4096x1x32_0_1_3 x3)⟩,
    ⟨S16x4096x12x32, broadcastInDim S16x4096x12x32 ![] bcast_S_S16x4096x12x32 (constant (F := Ideal) S_ .f32 0x00000000#32)⟩]
    concatenates_S16x4096x12x64_S16x4096x12x32_S16x4096x12x32_S16x4096x12x128_d3) bitsLt_bf16_f32) shapeCasts_S16x4096x12x128_S16x4096x1536

set_option maxHeartbeats 2000000 in
theorem V_v15 (c : Dev nD) : V m c main_v15 = packK (m ((c : Thread nD τ).loc main_arg2)) (m ((c : Thread nD τ).loc main_arg3)) := by
  show StableHlo.after hostOps0 (fun b => m (c, b)) _ = _
  simp only [StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rw [StableHlo.nary_result]
  generalize hW : HloOp.result (StableHlo.unary main_cst_2 main_v12 _ _ _) _ = W
  have e0 : W (Proc.devRef .tc main_arg2) = m ((c : Thread nD τ).loc main_arg2) := by
    subst hW
    repeat (first
      | (rw [StableHlo.unary_result_ne]; rotate_left; decide)
      | (rw [StableHlo.binary_result_ne]; rotate_left; decide)
      | (rw [StableHlo.nullary_result_ne]; rotate_left; decide)
      | (rw [StableHlo.reshape_result_ne]; rotate_left; decide))
  have e1 : W (Proc.devRef .tc main_v11) = broadcastInDim S16x4096x12x32 ![0, 1, 2, 3] bcast_S16x4096x1x32_S16x4096x12x32_0_1_2_3
      (broadcastInDim S16x4096x1x32 ![0, 1, 3] bcast_S16x4096x32_S16x4096x1x32_0_1_3 (m ((c : Thread nD τ).loc main_arg3))) := by
    subst hW
    after_results
  have e2 : W (Proc.devRef .tc main_v12) = broadcastInDim S16x4096x12x32 ![] bcast_S_S16x4096x12x32 (constant (F := Ideal) S_ .f32 0x00000000#32) := by
    subst hW
    after_results
  clear hW
  unfold packK
  rw [← e0, ← e2]
  erw [← e1]
  rfl

theorem packK_apply (x2 : FVec Ideal S16x4096x12x64 .f32) (x3 : FVec Ideal S16x4096x32 .f32) (b : Fin 16) (h : Fin 12) (d : Fin 96) (k : Fin 4096) :
    packK x2 x3 (ix3 b k ⟨128 * h.val + d.val, by omega⟩)
      = if hd : d.val < 64 then x2 (ix4 b k h ⟨d.val, hd⟩) else x3 (ix3 b k ⟨d.val - 64, by omega⟩) := by
  unfold packK
  pointwise
  have e : (128 * h.val + d.val) % 128 = d.val := by omega
  simp only [e]
  split
  · rfl
  · rw [dif_pos (by omega)]

end Cert.KernelIdeal.Steps

end
-- ==== Proof.Refer.lean ====
/-
  The reference's result read at an index: the softmax of the scaled scores, times the values.
-/
module

public import proofs.«01_k».proof.Proof.Gen.ReferenceIdeal.Read
public import Idealize.ShloMosaic.Lib.Pointwise

@[expose] public section

set_option maxRecDepth 16384

noncomputable section

namespace Cert.ReferenceIdeal.Stages

open Cert.ReferenceIdeal Cert.ReferenceIdeal.Gen Cert.ReferenceIdeal.Read
open Idealize.ShloMosaic

variable (x0 : (⟨S16x4096x12x64, .f32⟩ : BufTy).Contents (Elt Ideal)) (x1 : (⟨S16x4096x12x32, .f32⟩ : BufTy).Contents (Elt Ideal))
  (x2 : (⟨S16x4096x12x64, .f32⟩ : BufTy).Contents (Elt Ideal)) (x3 : (⟨S16x4096x32, .f32⟩ : BufTy).Contents (Elt Ideal))
  (x4 : (⟨S16x4096x12x64, .f32⟩ : BufTy).Contents (Elt Ideal))

/-- The scaled score of query `q` and key `k` of head `h` of sequence `b`. -/
def score (b : Fin 16) (h : Fin 12) (q k : Fin 4096) : EReal :=
  ((∑ d : Fin 64, x0 (ix4 b q h d) * x2 (ix4 b k h d)) + ∑ d : Fin 32, x3 (ix3 b k d) * x1 (ix4 b q h d))
    * val_main_v1 (F := Ideal) (fun a => a.elim0)

theorem v7_at (b : Fin 16) (h : Fin 12) (q k : Fin 4096) :
    val_main_v7 (F := Ideal) x0 x1 x2 x3 (ix4 b h q k) = score x0 x1 x2 x3 b h q k := by
  rw [val_main_v7_apply, val_main_v5_apply, val_main_v2_apply, val_main_v4_apply, val_main_v3_apply, val_main_v6_apply]
  have a1 : ∀ d, lidx_main_v2 (ix4 b h q k) d = ix4 b q h d := fun d => by funext a; fin_cases a <;> rfl
  have a2 : ∀ d, ridx_main_v2 (ix4 b h q k) d = ix4 b k h d := fun d => by funext a; fin_cases a <;> rfl
  have a3 : ∀ d, lidx_main_v3 (idx_main_v4 (ix4 b h q k)) d = ix3 b k d := fun d => by funext a; fin_cases a <;> rfl
  have a4 : ∀ d, ridx_main_v3 (idx_main_v4 (ix4 b h q k)) d = ix4 b q h d := fun d => by funext a; fin_cases a <;> rfl
  simp only [a1, a2, a3, a4]
  rfl

/-- The greatest score of a query. -/
def top (b : Fin 16) (h : Fin 12) (q : Fin 4096) : EReal := Finset.univ.fold max ⊥ fun k : Fin 4096 => score x0 x1 x2 x3 b h q k

theorem v8_at (b : Fin 16) (h : Fin 12) (q : Fin 4096) :
    val_main_v8 (F := Ideal) x0 x1 x2 x3 (ix3 b h q) = top x0 x1 x2 x3 b h q := by
  unfold val_main_v8
  generalize hs : val_main_v7 (F := Ideal) x0 x1 x2 x3 = s
  pointwise [val_main_cst_1]
  subst hs
  rw [show Ideal.ofBits FTy.f32 4286578688#32 = ⊥ by simp [Ideal.ofBits, Ideal.ieee]]
  simp only [v7_at]
  rfl

/-- A query's greatest score is the reference's row of maxima. -/
theorem v10_at (b : Fin 16) (h : Fin 12) (q : Fin 4096) :
    val_main_v10 (F := Ideal) x0 x1 x2 x3 (ix3 b h q) = top x0 x1 x2 x3 b h q := by
  rw [val_main_v10_apply, v8_at, val_main_v9_apply, val_main_cst_2_apply]
  show max (Ideal.ofBits FTy.f32 4286578688#32) _ = _
  rw [show Ideal.ofBits FTy.f32 4286578688#32 = ⊥ by simp [Ideal.ofBits, Ideal.ieee]]
  exact max_eq_right bot_le

/-- The weight before it is divided by its row's sum. -/
def weight (b : Fin 16) (h : Fin 12) (q k : Fin 4096) : EReal := Ideal.exp (score x0 x1 x2 x3 b h q k - top x0 x1 x2 x3 b h q)

theorem v14_at (b : Fin 16) (h : Fin 12) (q k : Fin 4096) :
    val_main_v14 (F := Ideal) x0 x1 x2 x3 (ix4 b h q k) = weight x0 x1 x2 x3 b h q k := by
  rw [val_main_v14_apply, val_main_v13_apply, val_main_v12_apply, val_main_v11_apply,
    show idx_main_v11 (idx_main_v12 (ix4 b h q k)) = ix3 b h q by funext a; fin_cases a <;> rfl, v7_at, v10_at]
  rfl

theorem v15_at (b : Fin 16) (h : Fin 12) (q : Fin 4096) :
    val_main_v15 (F := Ideal) x0 x1 x2 x3 (ix3 b h q) = ∑ k : Fin 4096, weight x0 x1 x2 x3 b h q k := by
  have hi : ∀ k, idx_main_v15 (ix3 b h q) k = ix4 b h q k := fun k => by funext a; fin_cases a <;> rfl
  rw [val_main_v15_apply]
  simp only [hi, v14_at, val_main_cst_3_apply]
  show Ideal.ofBits FTy.f32 0#32 + _ = _
  rw [show Ideal.ofBits FTy.f32 0#32 = 0 by simp [Ideal.ofBits, Ideal.ieee], zero_add]

theorem v18_at (b : Fin 16) (h : Fin 12) (q k : Fin 4096) :
    val_main_v18 (F := Ideal) x0 x1 x2 x3 (ix4 b h q k)
      = Ideal.div (weight x0 x1 x2 x3 b h q k) (∑ j : Fin 4096, weight x0 x1 x2 x3 b h q j) := by
  rw [val_main_v18_apply, val_main_v17_apply, val_main_v16_apply,
    show idx_main_v16 (idx_main_v17 (ix4 b h q k)) = ix3 b h q by funext a; fin_cases a <;> rfl, v14_at, v15_at]
  rfl

/-- The result: query `q`, head `h`, column `d`. -/
theorem v22_at (b : Fin 16) (q : Fin 4096) (h : Fin 12) (d : Fin 64) :
    val_main_v22 (F := Ideal) x0 x1 x2 x3 x4 (ix3 b q ⟨64 * h.val + d.val, by omega⟩)
      = ∑ k : Fin 4096, x4 (ix4 b k h d) * Ideal.div (weight x0 x1 x2 x3 b h q k) (∑ j : Fin 4096, weight x0 x1 x2 x3 b h q j) := by
  have hi : idx_main_v20 (idx_main_v21 (ix3 b q ⟨64 * h.val + d.val, by omega⟩)) = ix4 b h d q := by
    funext a
    fin_cases a <;> refine Fin.ext ?_
    · show ((b.val * 4096 + q.val) * 768 + (64 * h.val + d.val)) / 3145728 = b.val
      omega
    · show ((b.val * 4096 + q.val) * 768 + (64 * h.val + d.val)) / 64 % 12 = h.val
      omega
    · show ((b.val * 4096 + q.val) * 768 + (64 * h.val + d.val)) % 64 = d.val
      omega
    · show ((b.val * 4096 + q.val) * 768 + (64 * h.val + d.val)) / 768 % 4096 = q.val
      omega
  have h1 : ∀ k, lidx_main_v19 (ix4 b h d q) k = ix4 b k h d := fun k => by funext a; fin_cases a <;> rfl
  have h2 : ∀ k, ridx_main_v19 (ix4 b h d q) k = ix4 b h q k := fun k => by funext a; fin_cases a <;> rfl
  rw [val_main_v22_apply, val_main_v21_apply, val_main_v20_apply, hi]
  show val_main_v19 (F := Ideal) x0 x1 x2 x3 x4 _ = _
  rw [val_main_v19_apply]
  simp only [h1, h2, v18_at]

end Cert.ReferenceIdeal.Stages

end
-- ==== Proof.Equation.lean ====
/-
  The equation: for real queries and keys, the kernel's attention of a head is the reference's.
-/
module

public import proofs.«01_k».proof.Proof.Heads
public import proofs.«01_k».proof.Proof.Packed
public import proofs.«01_k».proof.Proof.Refer

@[expose] public section

set_option maxRecDepth 16384

noncomputable section

namespace Cert.Proof.Equation

open Idealize.ShloMosaic
open Cert.Proof.Softmax
open Cert.KernelIdeal.Steps (arrS arrV arrO packQ packK packV scale packQ_apply packK_apply packV_apply)
open Cert.ReferenceIdeal.Stages (score top weight v22_at)

theorem word_one : Ideal.ofBits .f32 0x3F800000#32 = ((1 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_width : Ideal.ofBits .f32 0x42C00000#32 = ((96 : ℝ) : EReal) := by
  simp [Ideal.ofBits, Ideal.ieee]; rw [← EReal.coe_mul]; norm_num

theorem log_two_ne : Real.log 2 ≠ 0 := (Real.log_pos (by norm_num)).ne'
theorem sqrt_ne : Real.sqrt 96 ≠ 0 := (Real.sqrt_pos.2 (by norm_num)).ne'

/-- The kernel's scale. -/
theorem scale_eq (i) : scale i = ((1 / (Real.log 2 * Real.sqrt 96) : ℝ) : EReal) := by
  show Ideal.div (Ideal.ofBits .f32 0x3F800000#32) (Ideal.log (Ideal.ofBits .f32 0x40000000#32) * Ideal.sqrt (Ideal.ofBits .f32 0x42C00000#32)) = _
  rw [word_one, word_two, word_width, Ideal.log_coe, Ideal.sqrt_coe, if_neg (by norm_num), if_neg (by norm_num), ← EReal.coe_mul,
    Ideal.div_coe (mul_ne_zero log_two_ne sqrt_ne), ← EReal.coe_mul, one_mul]

/-- The reference's scale. -/
theorem refScale_eq (i) : Cert.ReferenceIdeal.Read.val_main_v1 (F := Ideal) i = ((1 / Real.sqrt 96 : ℝ) : EReal) := by
  show Ideal.div (Ideal.ofBits .f32 0x3F800000#32) (Ideal.sqrt (Ideal.ofBits .f32 0x42C00000#32)) = _
  rw [word_one, word_width, Ideal.sqrt_coe, if_neg (by norm_num), Ideal.div_coe sqrt_ne, ← EReal.coe_mul, one_mul]

/-- A sum over a head's columns is the sum over its own part and the sum over the shared part. -/
theorem sum_parts (f : Fin 64 → ℝ) (g : Fin 32 → ℝ) :
    (∑ d : Fin 96, if hd : d.val < 64 then f ⟨d.val, hd⟩ else g ⟨d.val - 64, by omega⟩) = (∑ d, f d) + ∑ d, g d := by
  rw [Fin.sum_univ_add (a := 64) (b := 32) (fun d : Fin (64 + 32) => if hd : d.val < 64 then f ⟨d.val, hd⟩ else g ⟨d.val - 64, by omega⟩)]
  congr 1

section

variable (r0 : Cert.KernelIdeal.S16x4096x12x64.Idx → ℝ) (r1 : Cert.KernelIdeal.S16x4096x12x32.Idx → ℝ)
  (r2 : Cert.KernelIdeal.S16x4096x12x64.Idx → ℝ) (r3 : Cert.KernelIdeal.S16x4096x32.Idx → ℝ) (v : FVec Ideal Cert.KernelIdeal.S16x4096x12x64 .f32)

/-- The real score of a query and a key, its two parts added, not yet scaled. -/
def dotR (b : Fin 16) (h : Fin 12) (q k : Fin 4096) : ℝ :=
  (∑ d : Fin 64, r0 (ix4 b q h d) * r2 (ix4 b k h d)) + ∑ d : Fin 32, r3 (ix3 b k d) * r1 (ix4 b q h d)

theorem score_real (b : Fin 16) (h : Fin 12) (q k : Fin 4096) :
    score (fun i => (r0 i : EReal)) (fun i => (r1 i : EReal)) (fun i => (r2 i : EReal)) (fun i => (r3 i : EReal)) b h q k
      = ((dotR r0 r1 r2 r3 b h q k * (1 / Real.sqrt 96) : ℝ) : EReal) := by
  unfold score dotR
  rw [refScale_eq]
  simp only [← EReal.coe_mul, sum_coe, ← EReal.coe_add]

theorem arrS_real (b : Fin 16) (h : Fin 12) (q : Fin 4096) (j : ℕ) :
    arrS (packQ (fun i => (r0 i : EReal)) fun i => (r1 i : EReal)) (packK (fun i => (r2 i : EReal)) fun i => (r3 i : EReal)) b h q j
      = ((dotR r0 r1 r2 r3 b h q ⟨j % 4096, Nat.mod_lt _ (by decide)⟩ * (1 / (Real.log 2 * Real.sqrt 96)) : ℝ) : EReal) := by
  unfold arrS
  simp only [packQ_apply, packK_apply, scale_eq]
  generalize (⟨j % 4096, Nat.mod_lt _ (by decide)⟩ : Fin 4096) = k
  have e : ∀ d : Fin 96, (if hd : d.val < 64 then ((r2 (ix4 b k h ⟨d.val, hd⟩) : ℝ) : EReal) else ((r3 (ix3 b k ⟨d.val - 64, by omega⟩) : ℝ) : EReal))
      * ((if hd : d.val < 64 then ((r0 (ix4 b q h ⟨d.val, hd⟩) : ℝ) : EReal) else ((r1 (ix4 b q h ⟨d.val - 64, by omega⟩) : ℝ) : EReal))
        * ((1 / (Real.log 2 * Real.sqrt 96) : ℝ) : EReal))
      = (((if hd : d.val < 64 then r0 (ix4 b q h ⟨d.val, hd⟩) * r2 (ix4 b k h ⟨d.val, hd⟩)
          else r3 (ix3 b k ⟨d.val - 64, by omega⟩) * r1 (ix4 b q h ⟨d.val - 64, by omega⟩)) * (1 / (Real.log 2 * Real.sqrt 96)) : ℝ) : EReal) := by
    intro d
    by_cases hd : d.val < 64
    · simp only [dif_pos hd, ← EReal.coe_mul]
      congr 1
      ring
    · simp only [dif_neg hd, ← EReal.coe_mul]
      congr 1
      ring
  rw [Finset.sum_congr rfl fun d _ => e d, sum_coe, ← Finset.sum_mul,
    sum_parts (fun d => r0 (ix4 b q h d) * r2 (ix4 b k h d)) (fun d => r3 (ix3 b k d) * r1 (ix4 b q h d))]
  rfl

/-- The kernel's attention of a head is the reference's. -/
theorem arrO_eq (b : Fin 16) (q : Fin 4096) (h : Fin 12) (d : Fin 64) :
    arrO (packQ (fun i => (r0 i : EReal)) fun i => (r1 i : EReal)) (packK (fun i => (r2 i : EReal)) fun i => (r3 i : EReal)) (packV v) b q h d
      = Cert.ReferenceIdeal.Read.val_main_v22 (F := Ideal) (fun i => (r0 i : EReal)) (fun i => (r1 i : EReal)) (fun i => (r2 i : EReal))
          (fun i => (r3 i : EReal)) v (ix3 b q ⟨64 * h.val + d.val, by omega⟩) := by
  rw [v22_at]
  unfold arrO
  rw [funext (arrS_real r0 r1 r2 r3 b h q), run_eq]
  have hk : ∀ k : Fin 4096, (⟨k.val % 4096, Nat.mod_lt _ (by decide)⟩ : Fin 4096) = k := fun k => Fin.ext (Nat.mod_eq_of_lt k.isLt)
  have hs : ∀ k : Fin 4096, ((dotR r0 r1 r2 r3 b h q ⟨k.val % 4096, Nat.mod_lt _ (by decide)⟩ * (1 / (Real.log 2 * Real.sqrt 96)) * Real.log 2 : ℝ) : EReal)
      = score (fun i => (r0 i : EReal)) (fun i => (r1 i : EReal)) (fun i => (r2 i : EReal)) (fun i => (r3 i : EReal)) b h q k := by
    intro k
    rw [score_real, hk]
    congr 1
    have := log_two_ne
    have := sqrt_ne
    field_simp
  simp only [hs]
  unfold weight top
  refine Finset.sum_congr rfl fun k _ => ?_
  unfold arrV
  rw [packV_apply, hk]

end

end Cert.Proof.Equation

end
-- ==== Proof.Value.lean ====
/-
  The value claim: from finite queries and keys, the kernel's result array and the reference's are one array.
-/
module

public import proofs.«01_k».proof.Defs
public import proofs.«01_k».proof.Proof.Array
public import proofs.«01_k».proof.Proof.Equation
public import proofs.«01_k».proof.Proof.Finite
public import proofs.«01_k».proof.Proof.Frames

@[expose] public section

set_option maxRecDepth 16384

noncomputable section

namespace Cert.Proof

open Idealize.ShloMosaic Idealize.ShloMosaic.TcCoe Idealize.SL.Sem
open Cert.KernelIdeal (S16x4096x12x64 S16x4096x12x32 S16x4096x32)
open Cert.KernelIdeal.Steps (arrOut packQ packK packV)

/-- The two results as functions of the arguments. -/
theorem out_eq (x0 : FVec Ideal S16x4096x12x64 .f32) (x1 : FVec Ideal S16x4096x12x32 .f32) (x2 : FVec Ideal S16x4096x12x64 .f32)
    (x3 : FVec Ideal S16x4096x32 .f32) (x4 : FVec Ideal S16x4096x12x64 .f32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    arrOut (packQ x0 x1) (packK x2 x3) (packV x4) = Cert.ReferenceIdeal.Read.val_main_v22 (F := Ideal) x0 x1 x2 x3 x4 := by
  choose r0 e0 using h0
  choose r1 e1 using h1
  choose r2 e2 using h2
  choose r3 e3 using h3
  obtain rfl : x0 = fun i => (r0 i : EReal) := funext e0
  obtain rfl : x1 = fun i => (r1 i : EReal) := funext e1
  obtain rfl : x2 = fun i => (r2 i : EReal) := funext e2
  obtain rfl : x3 = fun i => (r3 i : EReal) := funext e3
  funext i
  idx_vars i
  have h := Equation.arrO_eq r0 r1 r2 r3 x4 i0 i1 ⟨i2.val / 64, by omega⟩ ⟨i2.val % 64, Nat.mod_lt _ (by decide)⟩
  have e : (⟨64 * (i2.val / 64) + i2.val % 64, by omega⟩ : Fin 768) = i2 := Fin.ext (Nat.div_add_mod _ _)
  rw [show (ix3 i0 i1 ⟨64 * (i2.val / 64) + i2.val % 64, by omega⟩ : Cert.ReferenceIdeal.S16x4096x768.Idx) = ix3 i0 i1 i2 from congrArg (ix3 i0 i1) e] at h
  exact h

section

open Cert.KernelIdeal Cert.KernelIdeal.Gen Cert.KernelIdeal.Steps

/-- The kernel's result array after a run. -/
theorem kernel_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = arrOut (packQ (m ((c.tc : Thread nD τ).loc main_arg0)) (m ((c.tc : Thread nD τ).loc main_arg1)))
          (packK (m ((c.tc : Thread nD τ).loc main_arg2)) (m ((c.tc : Thread nD τ).loc main_arg3)))
          (packV (m ((c.tc : Thread nD τ).loc main_arg4))) :=
  (θ_run defs _ _).mono (fun r h c => by
    have h3 := ((h c).1 3).trans (arr_eq m c)
    rw [V_v9, V_v15, V_v18] at h3
    exact h3) (run_main m ρ)

end

theorem value : letI := Cert.Pre_finite_qk.facts
    Cert.algebraic_KernelIdeal_ReferenceIdeal_pre_finite_qk := by
  letI := Cert.Pre_finite_qk.facts
  intro m g m' g' hpre hagree
  refine ⟨fun c => Cert.ReferenceIdeal.Read.val_main_v22 (F := Ideal) (m (c.tc.loc Cert.KernelIdeal.main_arg0))
    (m (c.tc.loc Cert.KernelIdeal.main_arg1)) (m (c.tc.loc Cert.KernelIdeal.main_arg2)) (m (c.tc.loc Cert.KernelIdeal.main_arg3))
    (m (c.tc.loc Cert.KernelIdeal.main_arg4)), ?_, ?_⟩
  rotate_left
  · refine (θ_run _ _ _).mono (fun r h c => ?_) (Cert.ReferenceIdeal.Value.run (F := Ideal) m' g')
    have hc := h c
    refine ⟨hc.1.trans ?_, hc.2⟩
    obtain ⟨a0, a1, a2, a3, a4⟩ := hagree c
    rw [a0, a1, a2, a3, a4]
    exact Cert.ReferenceIdeal.Read.val_main_v22_eq (F := Ideal) _ _ _ _ _
  · refine (θ_run _ _ _).mono (fun r h c => ?_) (θ_run_and (kernel_value m g) (Cert.KernelIdeal.Steps.frame_run (F := Ideal) m g))
    refine ⟨(h.1 c).trans ?_, h.2.1 c⟩
    obtain ⟨h0, h1, h2, h3⟩ := Cert.Pre_finite_qk.real_of_pre _ _ _ _ _ (hpre c)
    exact out_eq _ _ _ _ _ h0 h1 h2 h3

end Cert.Proof

end
-- ==== Proof.FinalTile.lean ====
/-
  One tile of the last layer's output: the four tiles of a block are one function of their rows, read at an index.
-/
module

public import proofs.«01_k».proof.Proof.Gen.FinalIdeal.Frame
public import Idealize.ShloMosaic.Lib.Pipeline.CanonAppend
public import Idealize.ShloMosaic.Lib.Pointwise

@[expose] public section

set_option maxRecDepth 16384

noncomputable section

namespace Cert.FinalIdeal.Steps

open Cert.FinalIdeal Cert.FinalIdeal.Gen
open Idealize.ShloMosaic

/-- The softmax of a head's scores, one row per query. -/
def weights (e : FVec Ideal S256x256 .f32) : FVec Ideal S256x256 .bf16 :=
  have p : FVec Ideal S256x256 .f32 := exp (subf e (broadcastTo S256x256 (shapeCast S256x1
    (multiReduction .maximumf [1] S256 e 0xFF800000#32 reduces_S256x256_S256 (.inl rfl) rfl) shapeCasts_S256_S256x1) broadcasts_S256x1_S256x256))
  have z : FVec Ideal S256x1 .f32 := shapeCast S256x1 (multiReduction .add [1] S256 p 0x00000000#32 reduces_S256x256_S256 (.inl rfl) rfl) shapeCasts_S256_S256x1
  have o : FVec Ideal S256x1 .f32 := broadcast S256x1 (Scalar.ofBits (F := Ideal) .f32 0x3F800000#32)
  truncf .bf16 (mulf p (broadcastTo S256x256 (divf o z) broadcasts_S256x1_S256x256)) bitsLt_bf16_f32

/-- The weights of the four heads, side by side. -/
def allWeights (s : FVec Ideal S256x1024 .f32) : FVec Ideal S256x1024 .bf16 :=
  concatenate S256x1024 1 [⟨S256x256, weights (extractStridedSlice S256x256 ![0, 0] s slices_S256x1024_o0_0_S256x256)⟩,
    ⟨S256x256, weights (extractStridedSlice S256x256 ![0, 256] s slices_S256x1024_o0_256_S256x256)⟩,
    ⟨S256x256, weights (extractStridedSlice S256x256 ![0, 512] s slices_S256x1024_o0_512_S256x256)⟩,
    ⟨S256x256, weights (extractStridedSlice S256x256 ![0, 768] s slices_S256x1024_o0_768_S256x256)⟩]
    concatenates_S256x256_S256x256_S256x256_S256x256_S256x1024_d1

/-- The memory's branch: the weights times the values of all heads. -/
def memory (s : FVec Ideal S256x1024 .f32) (v : Vec Ideal S1x1x1024x256 .bf16) : FVec Ideal S256x256 .f32 :=
  matmul dot_S256x1024_S1024x256_S256x256_1_0_0_1_n_n none (allWeights s) (shapeCast S1024x256 v shapeCasts_S1x1x1024x256_S1024x256 : FVec Ideal S1024x256 .bf16)
    (constant S256x256 .f32 0x00000000#32)

/-- What a tile of rows comes out as. -/
def tile (x : Vec Ideal S1x256x1024 .f32) (mx : Vec Ideal S1x256x768 .bf16) (q : Vec Ideal S1x256x256 .bf16) (g : Vec Ideal S1x256x1024 .bf16)
    (k : Vec Ideal S1x1x256x1024 .bf16) (v : Vec Ideal S1x1x1024x256 .bf16) (w : Vec Ideal S1024x1024 .bf16) (fg : Vec Ideal S1x1024 .f32) :
    FVec Ideal S1x256x1024 .f32 :=
  k0_pay23 (k0_pay14 (memory (k0_pay2 q k) v) g mx) (k0_pay21 x) (k0_pay22 w) fg

section

variable (x : Vec Ideal S1x256x1024 .f32) (mx : Vec Ideal S1x256x768 .bf16) (q : Vec Ideal S1x256x256 .bf16) (g : Vec Ideal S1x256x1024 .bf16)
    (k : Vec Ideal S1x1x256x1024 .bf16) (v : Vec Ideal S1x1x1024x256 .bf16) (w : Vec Ideal S1024x1024 .bf16) (fg : Vec Ideal S1x1024 .f32)

theorem piece0 : k0_pay23 (k0_pay14 (k0_pay8 (k0_pay2 q k) (k0_pay3 q k) (k0_pay4 q k) (k0_pay5 q k) (k0_pay6 q k) v) g mx) (k0_pay21 x) (k0_pay22 w) fg
    = tile x mx q g k v w fg := by
  unfold tile memory allWeights weights k0_pay8 k0_pay3 k0_pay4 k0_pay6 k0_pay5
  rfl

theorem piece1 : k0_pay32 (k0_pay24 (k0_pay15 (k0_pay12 (k0_pay7 q k) (k0_pay9 q k) (k0_pay10 q k) (k0_pay11 q k)) v) g mx) x w fg
    = tile x mx q g k v w fg := by
  unfold tile memory allWeights weights k0_pay32 k0_pay24 k0_pay15 k0_pay12 k0_pay11 k0_pay10 k0_pay9 k0_pay7 k0_pay23 k0_pay14 k0_pay21 k0_pay22 k0_pay2
  rfl

theorem piece2 (s : FVec Ideal S256x1024 .f32) (hs : s = k0_pay13 q k) :
    k0_pay36 (k0_pay33 g) (k0_pay34 (k0_pay25 (k0_pay19 s (k0_pay16 s) (k0_pay17 s) (k0_pay18 s) (Scalar.ofBits .f32 0x3F800000#32)) v) mx)
      (Scalar.ofBits .f32 0x3F000000#32) x w fg
    = tile x mx q g k v w fg := by
  subst hs
  unfold tile memory allWeights weights k0_pay36 k0_pay33 k0_pay34 k0_pay25 k0_pay19 k0_pay18 k0_pay17 k0_pay16 k0_pay13 k0_pay23 k0_pay14 k0_pay21 k0_pay22 k0_pay2
  rfl

theorem piece3 (s : FVec Ideal S256x1024 .f32) (hs : s = k0_pay20 q k) :
    k0_pay1 (k0_pay37 (k0_pay35 (k0_pay31 (k0_pay26 s) (k0_pay27 s) (k0_pay28 s) (k0_pay29 s) (k0_pay30 s)) v) g mx x w fg)
    = tile x mx q g k v w fg := by
  subst hs
  unfold tile memory allWeights weights k0_pay1 k0_pay37 k0_pay35 k0_pay31 k0_pay30 k0_pay29 k0_pay28 k0_pay27 k0_pay26 k0_pay20 k0_pay23 k0_pay14 k0_pay21 k0_pay22 k0_pay2
  rfl

end

/-! ## The tile at an index -/

/-- The softmax of a row of scores: the exponential of each less the greatest, times one over their sum. -/
def soft (f : Fin 256 → EReal) (j : Fin 256) : EReal :=
  Ideal.exp (f j - Finset.univ.fold max ⊥ f) * Ideal.div 1 (∑ i : Fin 256, Ideal.exp (f i - Finset.univ.fold max ⊥ f))

theorem weights_apply (e : FVec Ideal S256x256 .f32) (r j : Fin 256) : weights e (ix2 r j) = soft (fun i => e (ix2 r i)) j := by
  unfold weights soft
  pointwise
  simp only [show Ideal.ofBits .f32 0xFF800000#32 = ⊥ by simp [Ideal.ofBits, Ideal.ieee]]

theorem score_apply (q : Vec Ideal S1x256x256 .bf16) (k : Vec Ideal S1x1x256x1024 .bf16) (r : Fin 256) (c : Fin 1024) :
    k0_pay2 q k (ix2 r c) = ∑ d : Fin 256, q (ix3 0 r d) * k (ix4 0 0 d c) := by
  pointwise [k0_pay2]

theorem join_apply (a0 a1 a2 a3 : FVec Ideal S256x256 .bf16) (r : Fin 256) (h : Fin 4) (j : Fin 256) :
    concatenate S256x1024 1 [⟨S256x256, a0⟩, ⟨S256x256, a1⟩, ⟨S256x256, a2⟩, ⟨S256x256, a3⟩] concatenates_S256x256_S256x256_S256x256_S256x256_S256x1024_d1
      (ix2 r ⟨256 * h.val + j.val, by omega⟩) = (![a0, a1, a2, a3] : Fin 4 → FVec Ideal S256x256 .bf16) h (ix2 r j) := by
  revert h
  refine Fin.forall_fin_succ.2 ⟨?_, Fin.forall_fin_succ.2 ⟨?_, Fin.forall_fin_succ.2 ⟨?_, Fin.forall_fin_one.2 ?_⟩⟩⟩
  · show concatenate _ _ _ _ (ix2 r ⟨256 * 0 + j.val, by omega⟩) = a0 (ix2 r j)
    pointwise
  · show concatenate _ _ _ _ (ix2 r ⟨256 * 1 + j.val, by omega⟩) = a1 (ix2 r j)
    pointwise
  · show concatenate _ _ _ _ (ix2 r ⟨256 * 2 + j.val, by omega⟩) = a2 (ix2 r j)
    pointwise
    split_ifs <;> first | (exfalso; omega) | exact congrArg (fun t => a2 (ix2 r t)) (Fin.ext (by dsimp only; omega))
  · show concatenate _ _ _ _ (ix2 r ⟨256 * 3 + j.val, by omega⟩) = a3 (ix2 r j)
    pointwise
    split_ifs <;> first | (exfalso; omega) | exact congrArg (fun t => a3 (ix2 r t)) (Fin.ext (by dsimp only; omega))

theorem allWeights_apply (s : FVec Ideal S256x1024 .f32) (r : Fin 256) (h : Fin 4) (j : Fin 256) :
    allWeights s (ix2 r ⟨256 * h.val + j.val, by omega⟩) = soft (fun i => s (ix2 r ⟨256 * h.val + i.val, by omega⟩)) j := by
  unfold allWeights
  rw [join_apply]
  revert h
  refine Fin.forall_fin_succ.2 ⟨?_, Fin.forall_fin_succ.2 ⟨?_, Fin.forall_fin_succ.2 ⟨?_, Fin.forall_fin_one.2 ?_⟩⟩⟩
  · show weights _ (ix2 r j) = soft (fun i => s (ix2 r ⟨256 * 0 + i.val, by omega⟩)) j
    rw [weights_apply]
    congr 1
    funext i
    pointwise
  · show weights _ (ix2 r j) = soft (fun i => s (ix2 r ⟨256 * 1 + i.val, by omega⟩)) j
    rw [weights_apply]
    congr 1
    funext i
    pointwise
  · show weights _ (ix2 r j) = soft (fun i => s (ix2 r ⟨256 * 2 + i.val, by omega⟩)) j
    rw [weights_apply]
    congr 1
    funext i
    pointwise
  · show weights _ (ix2 r j) = soft (fun i => s (ix2 r ⟨256 * 3 + i.val, by omega⟩)) j
    rw [weights_apply]
    congr 1
    funext i
    pointwise

theorem memory_apply (s : FVec Ideal S256x1024 .f32) (v : Vec Ideal S1x1x1024x256 .bf16) (r c : Fin 256) :
    memory s v (ix2 r c) = ∑ i : Fin 1024, allWeights s (ix2 r i) * v (ix4 0 0 i c) := by
  unfold memory
  generalize allWeights s = a
  pointwise

theorem gated_apply (y : FVec Ideal S256x256 .f32) (g : Vec Ideal S1x256x1024 .bf16) (mx : Vec Ideal S1x256x768 .bf16) (r : Fin 256) (d : Fin 1024) :
    k0_pay14 y g mx (ix2 r d) = (if h : d.val < 768 then mx (ix3 0 r ⟨d.val, h⟩) else y (ix2 r ⟨d.val - 768, by omega⟩))
      * (Ideal.ofBits .f32 0x3F000000#32 * g (ix3 0 r d) * (1 + Ideal.tanh (Ideal.ofBits .f32 0x3F000000#32 * g (ix3 0 r d)))) := by
  pointwise [k0_pay14]

theorem out_apply (z : FVec Ideal S256x1024 .bf16) (x : FVec Ideal S256x1024 .f32) (w : FVec Ideal S1024x1024 .bf16) (fg : Vec Ideal S1x1024 .f32)
    (r : Fin 256) (j : Fin 1024) :
    k0_pay23 z x w fg (ix3 0 r j) = (x (ix2 r j) + ∑ d : Fin 1024, z (ix2 r d) * w (ix2 d j))
      * Ideal.rsqrt (Ideal.div (∑ i : Fin 1024, (x (ix2 r i) + ∑ d : Fin 1024, z (ix2 r d) * w (ix2 d i)) * (x (ix2 r i) + ∑ d : Fin 1024, z (ix2 r d) * w (ix2 d i)))
        (Ideal.ofBits .f32 0x44800000#32) + Ideal.ofBits .f32 0x358637BD#32) * fg (ix2 0 j) := by
  pointwise [k0_pay23]

/-- The last layer's output for one row: `x` the residual's row, `mx` the mixed tokens', `q` the memory queries', `g` the gates',
    with the memory's keys `k` and values `v` laid out by head, the output weights `w` and the gain `fg`. -/
def rowMem (q : Fin 256 → EReal) (k : Fin 256 → Fin 1024 → EReal) (v : Fin 1024 → Fin 256 → EReal) (c : Fin 256) : EReal :=
  ∑ i : Fin 1024, soft (fun j => ∑ d : Fin 256, q d * k d ⟨256 * (i.val / 256) + j.val, by omega⟩) ⟨i.val % 256, Nat.mod_lt _ (by decide)⟩ * v i c

/-- A row before its last normalization: the residual plus the gated branches times the output weights. -/
def rowPre (x : Fin 1024 → EReal) (mx : Fin 768 → EReal) (y : Fin 256 → EReal) (g : Fin 1024 → EReal) (w : Fin 1024 → Fin 1024 → EReal)
    (j : Fin 1024) : EReal :=
  x j + ∑ d : Fin 1024, ((if h : d.val < 768 then mx ⟨d.val, h⟩ else y ⟨d.val - 768, by omega⟩)
    * (Ideal.ofBits .f32 0x3F000000#32 * g d * (1 + Ideal.tanh (Ideal.ofBits .f32 0x3F000000#32 * g d)))) * w d j

/-- A row divided by the root of its mean square, times the gain. -/
def rowNorm (u fg : Fin 1024 → EReal) (j : Fin 1024) : EReal :=
  u j * Ideal.rsqrt (Ideal.div (∑ i : Fin 1024, u i * u i) (Ideal.ofBits .f32 0x44800000#32) + Ideal.ofBits .f32 0x358637BD#32) * fg j

theorem memory_row (q : Vec Ideal S1x256x256 .bf16) (k : Vec Ideal S1x1x256x1024 .bf16) (v : Vec Ideal S1x1x1024x256 .bf16) (r c : Fin 256) :
    memory (k0_pay2 q k) v (ix2 r c) = rowMem (fun d => q (ix3 0 r d)) (fun d i => k (ix4 0 0 d i)) (fun i c => v (ix4 0 0 i c)) c := by
  rw [memory_apply]
  unfold rowMem
  refine Finset.sum_congr rfl fun i _ => ?_
  have hw := allWeights_apply (k0_pay2 q k) r ⟨i.val / 256, by omega⟩ ⟨i.val % 256, Nat.mod_lt _ (by decide)⟩
  have e : (⟨256 * (i.val / 256) + i.val % 256, by omega⟩ : Fin 1024) = i := Fin.ext (Nat.div_add_mod _ _)
  rw [show (ix2 r ⟨256 * (i.val / 256) + i.val % 256, by omega⟩ : S256x1024.Idx) = ix2 r i from congrArg (ix2 r) e] at hw
  rw [hw]
  simp only [score_apply]

theorem tile_apply (x : Vec Ideal S1x256x1024 .f32) (mx : Vec Ideal S1x256x768 .bf16) (q : Vec Ideal S1x256x256 .bf16) (g : Vec Ideal S1x256x1024 .bf16)
    (k : Vec Ideal S1x1x256x1024 .bf16) (v : Vec Ideal S1x1x1024x256 .bf16) (w : Vec Ideal S1024x1024 .bf16) (fg : Vec Ideal S1x1024 .f32)
    (r : Fin 256) (j : Fin 1024) :
    tile x mx q g k v w fg (ix3 0 r j) = rowNorm (rowPre (fun j => x (ix3 0 r j)) (fun d => mx (ix3 0 r d))
      (rowMem (fun d => q (ix3 0 r d)) (fun d i => k (ix4 0 0 d i)) (fun i c => v (ix4 0 0 i c))) (fun d => g (ix3 0 r d)) (fun d j => w (ix2 d j)))
      (fun j => fg (ix2 0 j)) j := by
  have hx : ∀ i, k0_pay21 x (ix2 r i) = x (ix3 0 r i) := fun i => by pointwise [k0_pay21]
  have hw : ∀ d i, k0_pay22 w (ix2 d i) = w (ix2 d i) := fun d i => by pointwise [k0_pay22]
  unfold tile
  rw [out_apply]
  simp only [hx, hw, gated_apply, memory_row]
  rfl

/-- A block's result at an index: the row's. -/
def blockRow (x0 : Vec Ideal S1x1024x1024 .f32) (x1 : Vec Ideal S1x1024x768 .bf16) (x2 : Vec Ideal S1x1024x256 .bf16) (x3 : Vec Ideal S1x1024x1024 .bf16)
    (x4 : Vec Ideal S1x1x256x1024 .bf16) (x5 : Vec Ideal S1x1x1024x256 .bf16) (x6 : Vec Ideal S1024x1024 .bf16) (x7 : Vec Ideal S1x1024 .f32)
    (r : Fin 1024) (j : Fin 1024) : EReal :=
  rowNorm (rowPre (fun j => x0 (ix3 0 r j)) (fun d => x1 (ix3 0 r d))
      (rowMem (fun d => x2 (ix3 0 r d)) (fun d i => x4 (ix4 0 0 d i)) (fun i c => x5 (ix4 0 0 i c))) (fun d => x3 (ix3 0 r d)) (fun d j => x6 (ix2 d j)))
      (fun j => x7 (ix2 0 j)) j

section

variable (x0 : Vec Ideal S1x1024x1024 .f32) (x1 : Vec Ideal S1x1024x768 .bf16) (x2 : Vec Ideal S1x1024x256 .bf16) (x3 : Vec Ideal S1x1024x1024 .bf16)
    (x4 : Vec Ideal S1x1x256x1024 .bf16) (x5 : Vec Ideal S1x1x1024x256 .bf16) (x6 : Vec Ideal S1024x1024 .bf16) (x7 : Vec Ideal S1x1024 .f32)

theorem at0 (y : S1x256x1024.Idx) :
    tile (View.ld x0 r0_5) (View.ld x1 r0_6) (View.ld x2 r0_0) (View.ld x3 r0_5) (View.ld x4 r0_1) (View.ld x5 r0_3) (View.ld x6 r0_8) (View.ld x7 r0_9) y
      = blockRow x0 x1 x2 x3 x4 x5 x6 x7 ((r0_5.emb y) 1) ((r0_5.emb y) 2) := by
  idx_vars y
  obtain rfl : y0 = 0 := Subsingleton.elim _ _
  rw [tile_apply, show (r0_5.emb (ix3 0 y1 y2)) = (ix3 0 ⟨0 + y1.val, by omega⟩ y2 : S1x1024x1024.Idx) from by
    funext a; fin_cases a <;> refine Fin.ext ?_
    · rfl
    · show 0 + 1 * y1.val = 0 + y1.val; omega
    · show 0 + 1 * y2.val = y2.val; omega]
  show _ = blockRow x0 x1 x2 x3 x4 x5 x6 x7 ⟨0 + y1.val, by omega⟩ y2
  unfold blockRow
  pointwise

theorem at256 (y : S1x256x1024.Idx) :
    tile (View.ld x0 r0_10) (View.ld x1 r0_11) (View.ld x2 r0_2) (View.ld x3 r0_10) (View.ld x4 r0_1) (View.ld x5 r0_3) (View.ld x6 r0_8) (View.ld x7 r0_9) y
      = blockRow x0 x1 x2 x3 x4 x5 x6 x7 ((r0_10.emb y) 1) ((r0_10.emb y) 2) := by
  idx_vars y
  obtain rfl : y0 = 0 := Subsingleton.elim _ _
  rw [tile_apply, show (r0_10.emb (ix3 0 y1 y2)) = (ix3 0 ⟨256 + y1.val, by omega⟩ y2 : S1x1024x1024.Idx) from by
    funext a; fin_cases a <;> refine Fin.ext ?_
    · rfl
    · show 256 + 1 * y1.val = 256 + y1.val; omega
    · show 0 + 1 * y2.val = y2.val; omega]
  show _ = blockRow x0 x1 x2 x3 x4 x5 x6 x7 ⟨256 + y1.val, by omega⟩ y2
  unfold blockRow
  pointwise

theorem at512 (y : S1x256x1024.Idx) :
    tile (View.ld x0 r0_12) (View.ld x1 r0_13) (View.ld x2 r0_4) (View.ld x3 r0_12) (View.ld x4 r0_1) (View.ld x5 r0_3) (View.ld x6 r0_8) (View.ld x7 r0_9) y
      = blockRow x0 x1 x2 x3 x4 x5 x6 x7 ((r0_12.emb y) 1) ((r0_12.emb y) 2) := by
  idx_vars y
  obtain rfl : y0 = 0 := Subsingleton.elim _ _
  rw [tile_apply, show (r0_12.emb (ix3 0 y1 y2)) = (ix3 0 ⟨512 + y1.val, by omega⟩ y2 : S1x1024x1024.Idx) from by
    funext a; fin_cases a <;> refine Fin.ext ?_
    · rfl
    · show 512 + 1 * y1.val = 512 + y1.val; omega
    · show 0 + 1 * y2.val = y2.val; omega]
  show _ = blockRow x0 x1 x2 x3 x4 x5 x6 x7 ⟨512 + y1.val, by omega⟩ y2
  unfold blockRow
  pointwise

theorem at768 (y : S1x256x1024.Idx) :
    tile (View.ld x0 r0_14) (View.ld x1 r0_15) (View.ld x2 r0_7) (View.ld x3 r0_14) (View.ld x4 r0_1) (View.ld x5 r0_3) (View.ld x6 r0_8) (View.ld x7 r0_9) y
      = blockRow x0 x1 x2 x3 x4 x5 x6 x7 ((r0_14.emb y) 1) ((r0_14.emb y) 2) := by
  idx_vars y
  obtain rfl : y0 = 0 := Subsingleton.elim _ _
  rw [tile_apply, show (r0_14.emb (ix3 0 y1 y2)) = (ix3 0 ⟨768 + y1.val, by omega⟩ y2 : S1x1024x1024.Idx) from by
    funext a; fin_cases a <;> refine Fin.ext ?_
    · rfl
    · show 768 + 1 * y1.val = 768 + y1.val; omega
    · show 0 + 1 * y2.val = y2.val; omega]
  show _ = blockRow x0 x1 x2 x3 x4 x5 x6 x7 ⟨768 + y1.val, by omega⟩ y2
  unfold blockRow
  pointwise

/-- Four tiles of rows which all agree with one function of row and column leave that function in the block. -/
theorem canon_rows (G : Fin 1024 → Fin 1024 → EReal) (p0 p1 p2 p3 : FVec Ideal S1x256x1024 .f32)
    (h0 : ∀ y : S1x256x1024.Idx, p0 y = G ((r0_14.emb y) 1) ((r0_14.emb y) 2))
    (h1 : ∀ y : S1x256x1024.Idx, p1 y = G ((r0_12.emb y) 1) ((r0_12.emb y) 2))
    (h2 : ∀ y : S1x256x1024.Idx, p2 y = G ((r0_10.emb y) 1) ((r0_10.emb y) 2))
    (h3 : ∀ y : S1x256x1024.Idx, p3 y = G ((r0_5.emb y) 1) ((r0_5.emb y) 2)) (r j : Fin 1024) :
    View.canon ([⟨r0_14, p0⟩, ⟨r0_12, p1⟩, ⟨r0_10, p2⟩, ⟨r0_5, p3⟩] : List (View.Piece (Elt Ideal) S1x1024x1024 .f32)) (ix3 0 r j) = G r j := by
  have h := View.canon_append_of_pieces (Val := Elt Ideal) (fun y : S1x1024x1024.Idx => (G (y 1) (y 2) : Elt Ideal .f32)) []
    ([⟨r0_14, p0⟩, ⟨r0_12, p1⟩, ⟨r0_10, p2⟩, ⟨r0_5, p3⟩] : List (View.Piece (Elt Ideal) S1x1024x1024 .f32)) ?_ (ix3 0 r j) (cover0_8 _ _ _ _ _)
  · rw [List.append_nil] at h
    exact h
  · intro p hp
    simp only [List.mem_cons, List.not_mem_nil, or_false] at hp
    rcases hp with rfl | rfl | rfl | rfl
    · exact h0
    · exact h1
    · exact h2
    · exact h3

theorem out_block (r j : Fin 1024) : out0_8 x0 x1 x2 x3 x4 x5 x6 x7 (ix3 0 r j) = blockRow x0 x1 x2 x3 x4 x5 x6 x7 r j := by
  unfold out0_8 k0_pay39 k0_pay38
  rw [piece0, piece1, piece2 _ _ _ _ _ _ _ _ _ rfl, piece3 _ _ _ _ _ _ _ _ _ rfl]
  refine canon_rows (blockRow x0 x1 x2 x3 x4 x5 x6 x7) _ _ _ _ ?_ ?_ ?_ ?_ r j
  · exact fun y => at768 x0 x1 x2 x3 x4 x5 x6 x7 y
  · exact fun y => at512 x0 x1 x2 x3 x4 x5 x6 x7 y
  · exact fun y => at256 x0 x1 x2 x3 x4 x5 x6 x7 y
  · exact fun y => at0 x0 x1 x2 x3 x4 x5 x6 x7 y

end

end Cert.FinalIdeal.Steps

end
-- ==== Proof.FinalArray.lean ====
/-
  What the last layer's result array holds, from the arrays the kernel reads: each row's output.
-/
module

public import proofs.«01_k».proof.Proof.FinalTile
public import Idealize.ShloMosaic.Lib.Pipeline.ValueKit

@[expose] public section

set_option maxRecDepth 16384

noncomputable section

namespace Cert.FinalIdeal.Steps

open Cert.FinalIdeal Cert.FinalIdeal.Gen
open Idealize.ShloMosaic Idealize.ShloMosaic.TcCoe
open Idealize.ShloMosaic.Pipeline (Dat)

theorem win_idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![0, t.val / 4, 0, 0]
    ∧ win0_5.index t = ![0, t.val / 4, 0, 0] ∧ win0_6.index t = ![0, 0] ∧ win0_7.index t = ![0, 0] ∧ win0_8.index t = ![t.val / 4, t.val % 4, 0] :=
  (by decide +kernel : ∀ t : Fin grid0.N, _)

variable (m : (ℓ : Loc nD τ sig) → Buf (Elt Ideal) ℓ)

theorem t_lt (t : Fin cfg0.N) : t.val < 64 := (show cfg0.N = 64 from N_0) ▸ t.isLt

/-- The sequence of a grid point. -/
def seqOf (t : Fin cfg0.N) : Fin 16 := ⟨t.val / 4, by have := t_lt t; omega⟩
/-- The row of the sequence that a row of a grid point's block is. -/
def rowOf (t : Fin cfg0.N) (x : Fin 1024) : Fin 4096 := ⟨1024 * (t.val % 4) + x.val, by omega⟩

theorem emb0 (t : Fin cfg0.N) (x : Fin 1024) (y : Fin 1024) :
    (((cfg0.win 0).blk t).view.emb (ix3 0 x y)) = (ix3 (seqOf t) (rowOf t x) y : S16x4096x1024.Idx) := by
  obtain ⟨e0, e1, e2, e3, e4, e5, e6, e7, e8⟩ := win_idx t
  blk_ext [seqOf, rowOf, e0]

theorem read0 (W : (b : Ref sig .tc) → b.ty.Contents (Elt Ideal)) (t : Fin cfg0.N) (x : Fin 1024) (y : Fin 1024) :
    View.read (Elt Ideal) ((cfg0.win 0).blk t).view (W (Pipeline.arrRef spec0 0)) (ix3 0 x y) = W main_arg0 (ix3 (seqOf t) (rowOf t x) y) := by
  rw [← emb0]
  rfl

theorem iblk0_apply (c : Dev nD) (t : Fin cfg0.N) (x : Fin 1024) (y : Fin 1024) :
    iblk m c 0 t (ix3 0 x y) = V m c main_arg0 (ix3 (seqOf t) (rowOf t x) y) :=
  read0 (V m c) t x y

theorem emb1 (t : Fin cfg0.N) (x : Fin 1024) (y : Fin 768) :
    (((cfg0.win 1).blk t).view.emb (ix3 0 x y)) = (ix3 (seqOf t) (rowOf t x) y : S16x4096x768.Idx) := by
  obtain ⟨e0, e1, e2, e3, e4, e5, e6, e7, e8⟩ := win_idx t
  blk_ext [seqOf, rowOf, e1]

theorem read1 (W : (b : Ref sig .tc) → b.ty.Contents (Elt Ideal)) (t : Fin cfg0.N) (x : Fin 1024) (y : Fin 768) :
    View.read (Elt Ideal) ((cfg0.win 1).blk t).view (W (Pipeline.arrRef spec0 1)) (ix3 0 x y) = W main_v20 (ix3 (seqOf t) (rowOf t x) y) := by
  rw [← emb1]
  rfl

theorem iblk1_apply (c : Dev nD) (t : Fin cfg0.N) (x : Fin 1024) (y : Fin 768) :
    iblk m c 1 t (ix3 0 x y) = V m c main_v20 (ix3 (seqOf t) (rowOf t x) y) :=
  read1 (V m c) t x y

theorem emb2 (t : Fin cfg0.N) (x : Fin 1024) (y : Fin 256) :
    (((cfg0.win 2).blk t).view.emb (ix3 0 x y)) = (ix3 (seqOf t) (rowOf t x) y : S16x4096x256.Idx) := by
  obtain ⟨e0, e1, e2, e3, e4, e5, e6, e7, e8⟩ := win_idx t
  blk_ext [seqOf, rowOf, e2]

theorem read2 (W : (b : Ref sig .tc) → b.ty.Contents (Elt Ideal)) (t : Fin cfg0.N) (x : Fin 1024) (y : Fin 256) :
    View.read (Elt Ideal) ((cfg0.win 2).blk t).view (W (Pipeline.arrRef spec0 2)) (ix3 0 x y) = W main_v21 (ix3 (seqOf t) (rowOf t x) y) := by
  rw [← emb2]
  rfl

theorem iblk2_apply (c : Dev nD) (t : Fin cfg0.N) (x : Fin 1024) (y : Fin 256) :
    iblk m c 2 t (ix3 0 x y) = V m c main_v21 (ix3 (seqOf t) (rowOf t x) y) :=
  read2 (V m c) t x y

theorem emb3 (t : Fin cfg0.N) (x : Fin 1024) (y : Fin 1024) :
    (((cfg0.win 3).blk t).view.emb (ix3 0 x y)) = (ix3 (seqOf t) (rowOf t x) y : S16x4096x1024.Idx) := by
  obtain ⟨e0, e1, e2, e3, e4, e5, e6, e7, e8⟩ := win_idx t
  blk_ext [seqOf, rowOf, e3]

theorem read3 (W : (b : Ref sig .tc) → b.ty.Contents (Elt Ideal)) (t : Fin cfg0.N) (x : Fin 1024) (y : Fin 1024) :
    View.read (Elt Ideal) ((cfg0.win 3).blk t).view (W (Pipeline.arrRef spec0 3)) (ix3 0 x y) = W main_v22 (ix3 (seqOf t) (rowOf t x) y) := by
  rw [← emb3]
  rfl

theorem iblk3_apply (c : Dev nD) (t : Fin cfg0.N) (x : Fin 1024) (y : Fin 1024) :
    iblk m c 3 t (ix3 0 x y) = V m c main_v22 (ix3 (seqOf t) (rowOf t x) y) :=
  read3 (V m c) t x y

theorem emb4 (t : Fin cfg0.N) (x : Fin 256) (y : Fin 1024) :
    (((cfg0.win 4).blk t).view.emb (ix4 0 0 x y)) = (ix4 0 (seqOf t) x y : S1x16x256x1024.Idx) := by
  obtain ⟨e0, e1, e2, e3, e4, e5, e6, e7, e8⟩ := win_idx t
  blk_ext [seqOf, rowOf, e4]

theorem read4 (W : (b : Ref sig .tc) → b.ty.Contents (Elt Ideal)) (t : Fin cfg0.N) (x : Fin 256) (y : Fin 1024) :
    View.read (Elt Ideal) ((cfg0.win 4).blk t).view (W (Pipeline.arrRef spec0 4)) (ix4 0 0 x y) = W main_v10 (ix4 0 (seqOf t) x y) := by
  rw [← emb4]
  rfl

theorem iblk4_apply (c : Dev nD) (t : Fin cfg0.N) (x : Fin 256) (y : Fin 1024) :
    iblk m c 4 t (ix4 0 0 x y) = V m c main_v10 (ix4 0 (seqOf t) x y) :=
  read4 (V m c) t x y

theorem emb5 (t : Fin cfg0.N) (x : Fin 1024) (y : Fin 256) :
    (((cfg0.win 5).blk t).view.emb (ix4 0 0 x y)) = (ix4 0 (seqOf t) x y : S1x16x1024x256.Idx) := by
  obtain ⟨e0, e1, e2, e3, e4, e5, e6, e7, e8⟩ := win_idx t
  blk_ext [seqOf, rowOf, e5]

theorem read5 (W : (b : Ref sig .tc) → b.ty.Contents (Elt Ideal)) (t : Fin cfg0.N) (x : Fin 1024) (y : Fin 256) :
    View.read (Elt Ideal) ((cfg0.win 5).blk t).view (W (Pipeline.arrRef spec0 5)) (ix4 0 0 x y) = W main_v19 (ix4 0 (seqOf t) x y) := by
  rw [← emb5]
  rfl

theorem iblk5_apply (c : Dev nD) (t : Fin cfg0.N) (x : Fin 1024) (y : Fin 256) :
    iblk m c 5 t (ix4 0 0 x y) = V m c main_v19 (ix4 0 (seqOf t) x y) :=
  read5 (V m c) t x y

theorem emb6 (t : Fin cfg0.N) (x : Fin 1024) (y : Fin 1024) :
    (((cfg0.win 6).blk t).view.emb (ix2 x y)) = (ix2 x y : S1024x1024.Idx) := by
  obtain ⟨e0, e1, e2, e3, e4, e5, e6, e7, e8⟩ := win_idx t
  blk_ext [seqOf, rowOf, e6]

theorem read6 (W : (b : Ref sig .tc) → b.ty.Contents (Elt Ideal)) (t : Fin cfg0.N) (x : Fin 1024) (y : Fin 1024) :
    View.read (Elt Ideal) ((cfg0.win 6).blk t).view (W (Pipeline.arrRef spec0 6)) (ix2 x y) = W main_v23 (ix2 x y) := by
  exact congrArg (W main_v23) (emb6 t x y)

theorem iblk6_apply (c : Dev nD) (t : Fin cfg0.N) (x : Fin 1024) (y : Fin 1024) :
    iblk m c 6 t (ix2 x y) = V m c main_v23 (ix2 x y) :=
  read6 (V m c) t x y

theorem emb7 (t : Fin cfg0.N) (y : Fin 1024) :
    (((cfg0.win 7).blk t).view.emb (ix2 0 y)) = (ix2 0 y : S1x1024.Idx) := by
  obtain ⟨e0, e1, e2, e3, e4, e5, e6, e7, e8⟩ := win_idx t
  blk_ext [seqOf, rowOf, e7]

theorem read7 (W : (b : Ref sig .tc) → b.ty.Contents (Elt Ideal)) (t : Fin cfg0.N) (y : Fin 1024) :
    View.read (Elt Ideal) ((cfg0.win 7).blk t).view (W (Pipeline.arrRef spec0 7)) (ix2 0 y) = W main_v24 (ix2 0 y) := by
  exact congrArg (W main_v24) (emb7 t y)

theorem iblk7_apply (c : Dev nD) (t : Fin cfg0.N) (y : Fin 1024) :
    iblk m c 7 t (ix2 0 y) = V m c main_v24 (ix2 0 y) :=
  read7 (V m c) t y

/-- The result array from the arrays the kernel reads. -/
def arrFinal (A0 : FVec Ideal S16x4096x1024 .f32) (A1 : FVec Ideal S16x4096x768 .bf16) (A2 : FVec Ideal S16x4096x256 .bf16) (A3 : FVec Ideal S16x4096x1024 .bf16)
    (A4 : FVec Ideal S1x16x256x1024 .bf16) (A5 : FVec Ideal S1x16x1024x256 .bf16) (A6 : FVec Ideal S1024x1024 .bf16) (A7 : FVec Ideal S1x1024 .f32) :
    FVec Ideal S16x4096x1024 .f32 := fun i =>
  rowNorm (rowPre (fun j => A0 (ix3 (i 0) (i 1) j)) (fun d => A1 (ix3 (i 0) (i 1) d))
    (rowMem (fun d => A2 (ix3 (i 0) (i 1) d)) (fun d j => A4 (ix4 0 (i 0) d j)) (fun j c => A5 (ix4 0 (i 0) j c)))
    (fun d => A3 (ix3 (i 0) (i 1) d)) (fun d j => A6 (ix2 d j))) (fun j => A7 (ix2 0 j)) (i 2)

theorem blk_row (c : Dev nD) (t : Fin cfg0.N) (r j : Fin 1024) :
    blockRow (iblk m c 0 t) (iblk m c 1 t) (iblk m c 2 t) (iblk m c 3 t) (iblk m c 4 t) (iblk m c 5 t) (iblk m c 6 t) (iblk m c 7 t) r j
      = arrFinal (V m c main_arg0) (V m c main_v20) (V m c main_v21) (V m c main_v22) (V m c main_v10) (V m c main_v19) (V m c main_v23) (V m c main_v24)
        (ix3 (seqOf t) (rowOf t r) j) := by
  unfold blockRow
  simp only [iblk0_apply, iblk1_apply, iblk2_apply, iblk3_apply, iblk4_apply, iblk5_apply, iblk6_apply, iblk7_apply]
  rfl

/-- The result array after the run. -/
theorem arr_eq (c : Dev nD) : (dats m 0 c).arrAt 8 cfg0.N
    = arrFinal (V m c main_arg0) (V m c main_v20) (V m c main_v21) (V m c main_v22) (V m c main_v10) (V m c main_v19) (V m c main_v23) (V m c main_v24) := by
  refine (dats m 0 c).arrAt_eq_of_covers 8 _ (by decide +kernel) fun t hf y => ?_
  blk_simp
  rw [after0_8]
  obtain ⟨e0, e1, e2, e3, e4, e5, e6, e7, e8⟩ := win_idx t
  idx_vars y
  obtain rfl : y0 = 0 := Subsingleton.elim _ _
  have ei : ((View.whole main_v25).slice (win0_8.rect t)).emb (ix3 0 y1 y2) = (ix3 (seqOf t) (rowOf t y1) y2 : S16x4096x1024.Idx) := by
    blk_ext [seqOf, rowOf, e8]
  rw [ei, out_block, blk_row]

end Cert.FinalIdeal.Steps

end
-- ==== Proof.FinalPacked.lean ====
/-
  What the last layer's operands hold: the memory's scaled keys and its values, a block of a head's own on the diagonal
  and zeros elsewhere, and the other arrays as they are given.
-/
module

public import proofs.«01_k».proof.Proof.Gen.FinalIdeal.Frame
public import Idealize.ShloMosaic.Lib.Pointwise
public import Idealize.ShloMosaic.Lib.Claim

@[expose] public section

set_option maxRecDepth 16384

noncomputable section

namespace Cert.FinalIdeal.Steps

open Cert.FinalIdeal Cert.FinalIdeal.Gen
open Idealize.ShloMosaic Idealize.ShloMosaic.TcCoe

variable (m : (ℓ : Loc nD τ sig) → Buf (Elt Ideal) ℓ)

theorem V_v20 (c : Dev nD) : V m c main_v20 = (m ((c : Thread nD τ).loc main_arg1) : FVec Ideal S16x4096x768 .f32) := by
  entry_read
  rfl
theorem V_v21 (c : Dev nD) : V m c main_v21 = (m ((c : Thread nD τ).loc main_arg2) : FVec Ideal S16x4096x256 .f32) := by
  entry_read
  rfl
theorem V_v22 (c : Dev nD) : V m c main_v22 = (m ((c : Thread nD τ).loc main_arg5) : FVec Ideal S16x4096x1024 .f32) := by
  entry_read
  rfl
theorem V_v23 (c : Dev nD) : V m c main_v23 = (m ((c : Thread nD τ).loc main_arg6) : FVec Ideal S1024x1024 .f32) := by
  entry_read
  rfl

/-- The gain as one row. -/
def packG (x : FVec Ideal S1024 .f32) : FVec Ideal S1x1024 .f32 := shapeCast S1x1024 x shapeCasts_S1024_S1x1024

theorem V_v24 (c : Dev nD) : V m c main_v24 = packG (m ((c : Thread nD τ).loc main_arg7)) := by
  entry_read
  rfl

theorem packG_apply (x : FVec Ideal S1024 .f32) (j : Fin 1024) : packG x (ix2 0 j) = x (ix1 j) := by
  unfold packG
  pointwise

/-- Two heads' indices compared as words. -/
theorem cmp_head : ∀ h h' : Fin 4, IntOp.cmpi .eq (BitVec.ofNat 32 h.val) (BitVec.ofNat 32 h'.val) = if h = h' then 1#1 else 0#1 := by decide

/-- The memory's keys scaled, one row per head and column, one column per head and key. -/
def packK (x : FVec Ideal S16x256x4x64 .f32) : FVec Ideal S1x16x256x1024 .bf16 :=
  shapeCast S1x16x256x1024 (truncf (F := Ideal) .bf16 (select (cmpi .eq (iotaInDim S16x4x64x4x256 32 1) (iotaInDim S16x4x64x4x256 32 3))
    (broadcastInDim S16x4x64x4x256 ![0, 1, 2, 4] bcast_S16x4x64x256_S16x4x64x4x256_0_1_2_4
      (transpose S16x4x64x256 [0, 2, 3, 1] (mulf x (broadcastInDim S16x256x4x64 ![] bcast_S_S16x256x4x64 (constant (F := Ideal) S_ .f32 0x3E000000#32)))
        transposes_S16x256x4x64_S16x4x64x256_0_2_3_1))
    (broadcastInDim S16x4x64x4x256 ![] bcast_S_S16x4x64x4x256 (constant (F := Ideal) S_ .f32 0x00000000#32))) bitsLt_bf16_f32)
    shapeCasts_S16x4x64x4x256_S1x16x256x1024

theorem V_v10 (c : Dev nD) : V m c main_v10 = packK (m ((c : Thread nD τ).loc main_arg3)) := by
  entry_read
  rfl

theorem packK_apply (x : FVec Ideal S16x256x4x64 .f32) (b : Fin 16) (h : Fin 4) (d : Fin 64) (h' : Fin 4) (j : Fin 256) :
    packK x (ix4 0 b ⟨64 * h.val + d.val, by omega⟩ ⟨256 * h'.val + j.val, by omega⟩)
      = if h = h' then x (ix4 b j h d) * Ideal.ofBits .f32 0x3E000000#32 else 0 := by
  unfold packK
  pointwise
  rw [cmp_head]
  split <;> rfl

/-- The memory's values, one row per head and key, one column per head and column. -/
def packV (x : FVec Ideal S16x256x4x64 .f32) : FVec Ideal S1x16x1024x256 .bf16 :=
  shapeCast S1x16x1024x256 (truncf (F := Ideal) .bf16 (select (cmpi .eq (iotaInDim S16x4x256x4x64 32 1) (iotaInDim S16x4x256x4x64 32 3))
    (broadcastInDim S16x4x256x4x64 ![0, 1, 2, 4] bcast_S16x4x256x64_S16x4x256x4x64_0_1_2_4
      (transpose S16x4x256x64 [0, 2, 1, 3] x transposes_S16x256x4x64_S16x4x256x64_0_2_1_3))
    (broadcastInDim S16x4x256x4x64 ![] bcast_S_S16x4x256x4x64 (constant (F := Ideal) S_ .f32 0x00000000#32))) bitsLt_bf16_f32)
    shapeCasts_S16x4x256x4x64_S1x16x1024x256

theorem V_v19 (c : Dev nD) : V m c main_v19 = packV (m ((c : Thread nD τ).loc main_arg4)) := by
  entry_read
  rfl

theorem packV_apply (x : FVec Ideal S16x256x4x64 .f32) (b : Fin 16) (h : Fin 4) (j : Fin 256) (h' : Fin 4) (d : Fin 64) :
    packV x (ix4 0 b ⟨256 * h.val + j.val, by omega⟩ ⟨64 * h'.val + d.val, by omega⟩) = if h = h' then x (ix4 b j h d) else 0 := by
  unfold packV
  pointwise
  rw [cmp_head]
  split <;> rfl

end Cert.FinalIdeal.Steps

end
-- ==== Proof.FinalRefer.lean ====
/-
  The last layer's reference read at an index: the memory's softmax, the gate, the output weights and the norm.
-/
module

public import proofs.«01_k».proof.Proof.Gen.FinalReferenceIdeal.Read
public import Idealize.ShloMosaic.Lib.Pointwise

@[expose] public section

set_option maxRecDepth 16384

noncomputable section

namespace Cert.FinalReferenceIdeal.Stages

open Cert.FinalReferenceIdeal Cert.FinalReferenceIdeal.Gen Cert.FinalReferenceIdeal.Read
open Idealize.ShloMosaic

variable (x0 : (⟨S16x4096x1024, .f32⟩ : BufTy).Contents (Elt Ideal)) (x1 : (⟨S16x4096x768, .f32⟩ : BufTy).Contents (Elt Ideal))
  (x2 : (⟨S16x4096x256, .f32⟩ : BufTy).Contents (Elt Ideal)) (x3 x4 : (⟨S16x256x4x64, .f32⟩ : BufTy).Contents (Elt Ideal))
  (x5 : (⟨S16x4096x1024, .f32⟩ : BufTy).Contents (Elt Ideal)) (x6 : (⟨S1024x1024, .f32⟩ : BufTy).Contents (Elt Ideal))
  (x7 : (⟨S1024, .f32⟩ : BufTy).Contents (Elt Ideal))

/-- The scaled score of query `q` and memory key `k` of head `h` of sequence `b`. -/
def score (b : Fin 16) (h : Fin 4) (q : Fin 4096) (k : Fin 256) : EReal :=
  (∑ d : Fin 64, x2 (ix3 b q ⟨64 * h.val + d.val, by omega⟩) * x3 (ix4 b k h d)) * Ideal.ofBits .f32 0x3E000000#32

theorem v3_at (b : Fin 16) (h : Fin 4) (q : Fin 4096) (k : Fin 256) :
    val_main_v3 (F := Ideal) x2 x3 (ix4 b h q k) = score x2 x3 b h q k := by
  rw [val_main_v3_apply, val_main_v1_apply, val_main_v2_apply, val_main_cst_apply]
  have a1 : ∀ d, lidx_main_v1 (ix4 b h q k) d = ix4 b q h d := fun d => by funext a; fin_cases a <;> rfl
  have a2 : ∀ d, ridx_main_v1 (ix4 b h q k) d = ix4 b k h d := fun d => by funext a; fin_cases a <;> rfl
  have a3 : ∀ d : Fin 64, idx_main_v0 (ix4 b q h d) = ix3 b q ⟨64 * h.val + d.val, by omega⟩ := fun d => by
    funext a
    fin_cases a <;> refine Fin.ext ?_
    · show (((b.val * 4096 + q.val) * 4 + h.val) * 64 + d.val) / 1048576 = b.val
      omega
    · show (((b.val * 4096 + q.val) * 4 + h.val) * 64 + d.val) / 256 % 4096 = q.val
      omega
    · show (((b.val * 4096 + q.val) * 4 + h.val) * 64 + d.val) % 256 = 64 * h.val + d.val
      omega
  simp only [a1, a2, val_main_v0_apply, a3]
  rfl

/-- The greatest score of a query. -/
def top (b : Fin 16) (h : Fin 4) (q : Fin 4096) : EReal := Finset.univ.fold max ⊥ fun k : Fin 256 => score x2 x3 b h q k

theorem v4_at (b : Fin 16) (h : Fin 4) (q : Fin 4096) :
    val_main_v4 (F := Ideal) x2 x3 (ix3 b h q) = top x2 x3 b h q := by
  unfold val_main_v4
  generalize hs : val_main_v3 (F := Ideal) x2 x3 = s
  pointwise [val_main_cst_0]
  subst hs
  rw [show Ideal.ofBits FTy.f32 4286578688#32 = ⊥ by simp [Ideal.ofBits, Ideal.ieee]]
  simp only [v3_at]
  rfl

theorem v6_at (b : Fin 16) (h : Fin 4) (q : Fin 4096) :
    val_main_v6 (F := Ideal) x2 x3 (ix3 b h q) = top x2 x3 b h q := by
  rw [val_main_v6_apply, v4_at, val_main_v5_apply, val_main_cst_1_apply]
  show max (Ideal.ofBits FTy.f32 4286578688#32) _ = _
  rw [show Ideal.ofBits FTy.f32 4286578688#32 = ⊥ by simp [Ideal.ofBits, Ideal.ieee]]
  exact max_eq_right bot_le

/-- The weight before it is divided by its row's sum. -/
def weight (b : Fin 16) (h : Fin 4) (q : Fin 4096) (k : Fin 256) : EReal := Ideal.exp (score x2 x3 b h q k - top x2 x3 b h q)

theorem v10_at (b : Fin 16) (h : Fin 4) (q : Fin 4096) (k : Fin 256) :
    val_main_v10 (F := Ideal) x2 x3 (ix4 b h q k) = weight x2 x3 b h q k := by
  rw [val_main_v10_apply, val_main_v9_apply, val_main_v8_apply, val_main_v7_apply,
    show idx_main_v7 (idx_main_v8 (ix4 b h q k)) = ix3 b h q by funext a; fin_cases a <;> rfl, v3_at, v6_at]
  rfl

theorem v11_at (b : Fin 16) (h : Fin 4) (q : Fin 4096) :
    val_main_v11 (F := Ideal) x2 x3 (ix3 b h q) = ∑ k : Fin 256, weight x2 x3 b h q k := by
  have hi : ∀ k, idx_main_v11 (ix3 b h q) k = ix4 b h q k := fun k => by funext a; fin_cases a <;> rfl
  rw [val_main_v11_apply]
  simp only [hi, v10_at, val_main_cst_2_apply]
  show Ideal.ofBits FTy.f32 0#32 + _ = _
  rw [show Ideal.ofBits FTy.f32 0#32 = 0 by simp [Ideal.ofBits, Ideal.ieee], zero_add]

theorem v14_at (b : Fin 16) (h : Fin 4) (q : Fin 4096) (k : Fin 256) :
    val_main_v14 (F := Ideal) x2 x3 (ix4 b h q k) = Ideal.div (weight x2 x3 b h q k) (∑ j : Fin 256, weight x2 x3 b h q j) := by
  rw [val_main_v14_apply, val_main_v13_apply, val_main_v12_apply,
    show idx_main_v12 (idx_main_v13 (ix4 b h q k)) = ix3 b h q by funext a; fin_cases a <;> rfl, v10_at, v11_at]
  rfl

/-- The memory's branch: query `q`, head `h`, column `d`. -/
def branch (b : Fin 16) (q : Fin 4096) (h : Fin 4) (d : Fin 64) : EReal :=
  ∑ k : Fin 256, x4 (ix4 b k h d) * Ideal.div (weight x2 x3 b h q k) (∑ j : Fin 256, weight x2 x3 b h q j)

theorem v17_at (b : Fin 16) (q : Fin 4096) (c : Fin 256) :
    val_main_v17 (F := Ideal) x2 x3 x4 (ix3 b q c) = branch x2 x3 x4 b q ⟨c.val / 64, by omega⟩ ⟨c.val % 64, Nat.mod_lt _ (by decide)⟩ := by
  have hi : idx_main_v16 (idx_main_v17 (ix3 b q c)) = ix4 b ⟨c.val / 64, by omega⟩ ⟨c.val % 64, Nat.mod_lt _ (by decide)⟩ q := by
    funext a
    fin_cases a <;> refine Fin.ext ?_
    · show ((b.val * 4096 + q.val) * 256 + c.val) / 1048576 = b.val
      omega
    · show ((b.val * 4096 + q.val) * 256 + c.val) / 64 % 4 = c.val / 64
      omega
    · show ((b.val * 4096 + q.val) * 256 + c.val) % 64 = c.val % 64
      omega
    · show ((b.val * 4096 + q.val) * 256 + c.val) / 256 % 4096 = q.val
      omega
  have h1 : ∀ (h : Fin 4) (d : Fin 64) k, lidx_main_v15 (ix4 b h d q) k = ix4 b k h d := fun h d k => by funext a; fin_cases a <;> rfl
  have h2 : ∀ (h : Fin 4) (d : Fin 64) k, ridx_main_v15 (ix4 b h d q) k = ix4 b h q k := fun h d k => by funext a; fin_cases a <;> rfl
  rw [val_main_v17_apply, val_main_v16_apply, hi, val_main_v15_apply]
  simp only [h1, h2, v14_at]
  rfl

theorem v18_at (b : Fin 16) (q : Fin 4096) (c : Fin 1024) :
    val_main_v18 (F := Ideal) x1 x2 x3 x4 (ix3 b q c) = if h : c.val < 768 then x1 (ix3 b q ⟨c.val, h⟩)
      else branch x2 x3 x4 b q ⟨(c.val - 768) / 64, by omega⟩ ⟨(c.val - 768) % 64, Nat.mod_lt _ (by decide)⟩ := by
  unfold val_main_v18
  generalize hs : val_main_v17 (F := Ideal) x2 x3 x4 = s
  pointwise
  subst hs
  simp only [v17_at]

theorem v19_at (i : S16x4096x1024.Idx) :
    val_main_v19 (F := Ideal) x5 i = x5 i * Ideal.div 1 (1 + Ideal.exp (-(x5 i))) := by
  rw [val_main_v19_apply, val_main_call0_v5_apply, val_main_call0_v4_apply, val_main_call0_v3_apply, val_main_call0_v2_apply, val_main_call0_v1_apply,
    val_main_call0_v0_apply, val_main_call0_cst_apply, val_main_call0_cst_0_apply]
  show x5 i * Ideal.div (Ideal.ofBits .f32 0x3F800000#32) (Ideal.ofBits .f32 0x3F800000#32 + _) = _
  rw [show Ideal.ofBits .f32 0x3F800000#32 = 1 by
    simp [Ideal.ofBits, Ideal.ieee]; rw [← EReal.coe_mul]; norm_num]
  rfl

/-- A row before its last normalization. -/
def pre (b : Fin 16) (q : Fin 4096) (j : Fin 1024) : EReal :=
  x0 (ix3 b q j) + ∑ c : Fin 1024, (if h : c.val < 768 then x1 (ix3 b q ⟨c.val, h⟩)
      else branch x2 x3 x4 b q ⟨(c.val - 768) / 64, by omega⟩ ⟨(c.val - 768) % 64, Nat.mod_lt _ (by decide)⟩)
    * (x5 (ix3 b q c) * Ideal.div 1 (1 + Ideal.exp (-(x5 (ix3 b q c))))) * x6 (ix2 c j)

theorem v22_at (b : Fin 16) (q : Fin 4096) (j : Fin 1024) :
    val_main_v22 (F := Ideal) x0 x1 x2 x3 x4 x5 x6 (ix3 b q j) = pre x0 x1 x2 x3 x4 x5 x6 b q j := by
  have h1 : ∀ k, lidx_main_v21 (ix3 b q j) k = ix3 b q k := fun k => by funext a; fin_cases a <;> rfl
  have h2 : ∀ k, ridx_main_v21 (ix3 b q j) k = ix2 k j := fun k => by funext a; fin_cases a <;> rfl
  rw [val_main_v22_apply, val_main_v21_apply]
  simp only [h1, h2, val_main_v20_apply, v18_at, v19_at]
  rfl

theorem v24_at (b : Fin 16) (q : Fin 4096) :
    val_main_v24 (F := Ideal) x0 x1 x2 x3 x4 x5 x6 (ix2 b q)
      = ∑ k : Fin 1024, pre x0 x1 x2 x3 x4 x5 x6 b q k * pre x0 x1 x2 x3 x4 x5 x6 b q k := by
  have hi : ∀ k, idx_main_v24 (ix2 b q) k = ix3 b q k := fun k => by funext a; fin_cases a <;> rfl
  rw [val_main_v24_apply]
  simp only [hi, val_main_v23_apply, v22_at, val_main_cst_3_apply]
  show Ideal.ofBits FTy.f32 0#32 + _ = _
  rw [show Ideal.ofBits FTy.f32 0#32 = 0 by simp [Ideal.ofBits, Ideal.ieee], zero_add]
  rfl

/-- The result: query `q`, column `j`. -/
theorem v35_at (b : Fin 16) (q : Fin 4096) (j : Fin 1024) :
    val_main_v35 (F := Ideal) x0 x1 x2 x3 x4 x5 x6 x7 (ix3 b q j)
      = pre x0 x1 x2 x3 x4 x5 x6 b q j * Ideal.rsqrt (Ideal.div (∑ k : Fin 1024, pre x0 x1 x2 x3 x4 x5 x6 b q k * pre x0 x1 x2 x3 x4 x5 x6 b q k)
        (Ideal.ofBits .f32 0x44800000#32) + Ideal.ofBits .f32 0x358637BD#32) * x7 (ix1 j) := by
  rw [val_main_v35_apply, val_main_v32_apply, val_main_v31_apply, val_main_v30_apply, val_main_v29_apply, val_main_v27_apply, val_main_v25_apply,
    val_main_v26_apply, val_main_v28_apply, val_main_v34_apply, val_main_v33_apply, v22_at,
    show idx_main_v25 (idx_main_v31 (ix3 b q j)) = ix2 b q by funext a; fin_cases a <;> rfl,
    show idx_main_v33 (idx_main_v34 (ix3 b q j)) = ix1 j by funext a; fin_cases a <;> rfl, v24_at]
  rfl

end Cert.FinalReferenceIdeal.Stages

end
-- ==== Proof.FinalEquation.lean ====
/-
  The equation of the last layer: for real memory queries and keys, the kernel's rows are the reference's.
-/
module

public import proofs.«01_k».proof.Proof.FinalArray
public import proofs.«01_k».proof.Proof.FinalPacked
public import proofs.«01_k».proof.Proof.FinalRefer
public import proofs.«01_k».proof.Proof.Softmax

@[expose] public section

set_option maxRecDepth 16384

noncomputable section

namespace Cert.Proof.FinalEquation

open Idealize.ShloMosaic
open Cert.Proof.Softmax
open Cert.FinalIdeal.Steps
open Cert.FinalReferenceIdeal.Stages

theorem word_half : Ideal.ofBits .f32 0x3F000000#32 = ((1 / 2 : ℝ) : EReal) := by
  simp [Ideal.ofBits, Ideal.ieee]; rw [← EReal.coe_mul]; norm_num
theorem word_eighth : Ideal.ofBits .f32 0x3E000000#32 = ((1 / 8 : ℝ) : EReal) := by
  simp [Ideal.ofBits, Ideal.ieee]; rw [← EReal.coe_mul]; norm_num

/-! ## Sums over blocks -/

theorem block_lt {m n : ℕ} (h : Fin m) (d : Fin n) : n * h.val + d.val < m * n := by
  have h1 : n * (h.val + 1) ≤ n * m := Nat.mul_le_mul_left n h.isLt
  have h2 := d.isLt
  rw [Nat.mul_add, Nat.mul_one] at h1
  rw [Nat.mul_comm m n]
  omega

/-- A sum over `m` blocks of `n` indices, block by block. -/
theorem sum_blocks (m n : ℕ) (f : Fin (m * n) → EReal) :
    ∑ i : Fin (m * n), f i = ∑ h : Fin m, ∑ d : Fin n, f ⟨n * h.val + d.val, block_lt h d⟩ := by
  rw [← finProdFinEquiv.sum_comp, Fintype.sum_prod_type]
  refine Finset.sum_congr rfl fun h _ => Finset.sum_congr rfl fun d _ => congrArg f (Fin.ext ?_)
  show d.val + n * h.val = n * h.val + d.val
  omega

/-- A sum over blocks of which one alone is not zero. -/
theorem sum_one_block {m n : ℕ} (h' : Fin m) (f g : Fin m → Fin n → EReal) :
    (∑ h : Fin m, ∑ d : Fin n, f h d * (if h = h' then g h d else 0)) = ∑ d : Fin n, f h' d * g h' d := by
  rw [Finset.sum_eq_single h']
  · simp only [if_pos]
  · intro h _ hne
    simp only [if_neg hne, mul_zero, Finset.sum_const_zero]
  · intro hn
    exact absurd (Finset.mem_univ _) hn

/-! ## The softmax -/

theorem mul_div_one (e s : EReal) (hs : s ≠ 0) : e * Ideal.div 1 s = Ideal.div e s := by
  unfold Ideal.div
  rw [if_neg hs, if_neg hs, one_mul]

/-- Over real scores the sum of the exponentials is not zero. -/
theorem sum_ne (s : Fin 256 → ℝ) :
    (∑ i : Fin 256, Ideal.exp (((s i : ℝ) : EReal) - Finset.univ.fold max ⊥ fun i : Fin 256 => ((s i : ℝ) : EReal))) ≠ 0 := by
  rw [fold_max_coe Finset.univ Finset.univ_nonempty s]
  generalize Finset.univ.sup' Finset.univ_nonempty s = t
  have he : ∀ i, Ideal.exp (((s i : ℝ) : EReal) - (t : EReal)) = ((Real.exp (s i - t) : ℝ) : EReal) := fun i => by
    rw [← EReal.coe_sub]; rfl
  simp only [he, sum_coe]
  rw [← EReal.coe_zero]
  exact fun h => (Finset.sum_pos (fun i _ => Real.exp_pos (s i - t)) Finset.univ_nonempty).ne' (EReal.coe_injective h)

theorem soft_real (s : Fin 256 → ℝ) (j : Fin 256) :
    soft (fun i => ((s i : ℝ) : EReal)) j
      = Ideal.div (Ideal.exp (((s j : ℝ) : EReal) - Finset.univ.fold max ⊥ fun i : Fin 256 => ((s i : ℝ) : EReal)))
        (∑ i : Fin 256, Ideal.exp (((s i : ℝ) : EReal) - Finset.univ.fold max ⊥ fun i : Fin 256 => ((s i : ℝ) : EReal))) := by
  unfold soft
  exact mul_div_one _ _ (sum_ne s)

/-! ## The gate -/

theorem gate_real (r : ℝ) : 1 / 2 * r * (1 + Real.tanh (1 / 2 * r)) = r * (1 / (1 + Real.exp (-r))) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have hp := Real.exp_pos (1 / 2 * r)
  have hq := Real.exp_pos (-(1 / 2 * r))
  rw [Real.tanh_eq_sinh_div_cosh, Real.sinh_eq, Real.cosh_eq, h1]
  generalize Real.exp (1 / 2 * r) = a at *
  generalize Real.exp (-(1 / 2 * r)) = b at *
  have e1 : a + b ≠ 0 := (add_pos hp hq).ne'
  have e2 : 1 + b * b ≠ 0 := (add_pos one_pos (mul_pos hq hq)).ne'
  field_simp
  linear_combination (2 * r * b) * h2

/-- Half the gate times one plus the hyperbolic tangent of half the gate is the gate times its logistic. -/
theorem gate_eq (g : EReal) :
    Ideal.ofBits .f32 0x3F000000#32 * g * (1 + Ideal.tanh (Ideal.ofBits .f32 0x3F000000#32 * g)) = g * Ideal.div 1 (1 + Ideal.exp (-g)) := by
  rw [word_half]
  induction g with
  | bot =>
    rw [EReal.coe_mul_bot_of_pos (by norm_num), Ideal.tanh_bot]
    have e1 : (1 : EReal) + (-1) = 0 := by
      rw [← EReal.coe_one, ← EReal.coe_neg, ← EReal.coe_add]; simp
    have e2 : Ideal.div 1 (1 + Ideal.exp (-(⊥ : EReal))) = 0 := by
      rw [EReal.neg_bot]
      show Ideal.div 1 (1 + ⊤) = 0
      have : (1 : EReal) + ⊤ = ⊤ := by rw [← EReal.coe_one, EReal.coe_add_top]
      rw [this]
      unfold Ideal.div
      rw [if_neg (by simp), EReal.inv_top, mul_zero]
    rw [e1, e2]
  | top =>
    rw [EReal.coe_mul_top_of_pos (by norm_num), Ideal.tanh_top, EReal.neg_top]
    have e2 : Ideal.div 1 (1 + Ideal.exp (⊥ : EReal)) = 1 := by
      show Ideal.div 1 (1 + 0) = 1
      rw [add_zero]
      unfold Ideal.div
      rw [if_neg one_ne_zero, one_mul, ← EReal.coe_one, ← EReal.coe_inv, inv_one]
    rw [e2, mul_one, EReal.top_mul_of_pos]
    rw [← EReal.coe_one, ← EReal.coe_add]
    exact EReal.coe_pos.2 (by norm_num)
  | coe r =>
    have e1 : ((1 / 2 : ℝ) : EReal) * (r : EReal) = ((1 / 2 * r : ℝ) : EReal) := (EReal.coe_mul _ _).symm
    have hne : 1 + Real.exp (-r) ≠ 0 := (add_pos one_pos (Real.exp_pos _)).ne'
    rw [e1, Ideal.tanh_coe, ← EReal.coe_neg]
    show _ = (r : EReal) * Ideal.div 1 (1 + ((Real.exp (-r) : ℝ) : EReal))
    rw [← EReal.coe_one, ← EReal.coe_add, ← EReal.coe_add, Ideal.div_coe hne, ← EReal.coe_mul, ← EReal.coe_mul, ← EReal.coe_mul, gate_real]
    congr 1
    ring

/-! ## The memory's branch -/

section

variable (r2 : Cert.FinalIdeal.S16x4096x256.Idx → ℝ) (r3 : Cert.FinalIdeal.S16x256x4x64.Idx → ℝ) (x4 : FVec Ideal Cert.FinalIdeal.S16x256x4x64 .f32)

/-- The real scaled score. -/
def scoreR (b : Fin 16) (h : Fin 4) (q : Fin 4096) (k : Fin 256) : ℝ :=
  (∑ d : Fin 64, r2 (ix3 b q ⟨64 * h.val + d.val, by omega⟩) * r3 (ix4 b k h d)) * (1 / 8)

theorem score_real (b : Fin 16) (h : Fin 4) (q : Fin 4096) (k : Fin 256) :
    score (fun i => (r2 i : EReal)) (fun i => (r3 i : EReal)) b h q k = ((scoreR r2 r3 b h q k : ℝ) : EReal) := by
  unfold score scoreR
  rw [word_eighth]
  simp only [← EReal.coe_mul, sum_coe]

theorem packed_real (b : Fin 16) (h : Fin 4) (q : Fin 4096) (j : Fin 256) :
    (∑ d : Fin 256, ((r2 (ix3 b q d) : ℝ) : EReal) * packK (fun i => (r3 i : EReal)) (ix4 0 b d ⟨256 * h.val + j.val, by omega⟩))
      = ((scoreR r2 r3 b h q j : ℝ) : EReal) := by
  have hs := sum_blocks 4 64 fun d : Fin 256 =>
    ((r2 (ix3 b q d) : ℝ) : EReal) * packK (fun i => (r3 i : EReal)) (ix4 0 b d ⟨256 * h.val + j.val, by omega⟩)
  refine hs.trans ?_
  simp only [packK_apply]
  rw [sum_one_block h (fun h d => ((r2 (ix3 b q ⟨64 * h.val + d.val, by omega⟩) : ℝ) : EReal))
    (fun h d => ((r3 (ix4 b j h d) : ℝ) : EReal) * Ideal.ofBits .f32 0x3E000000#32)]
  unfold scoreR
  rw [word_eighth]
  simp only [← EReal.coe_mul, sum_coe]
  congr 1
  rw [Finset.sum_mul]
  exact Finset.sum_congr rfl fun d _ => by ring

theorem rowMem_blocks (q : Fin 256 → EReal) (k : Fin 256 → Fin 1024 → EReal) (v : Fin 1024 → Fin 256 → EReal) (c : Fin 256) :
    rowMem q k v c = ∑ h : Fin 4, ∑ j : Fin 256, soft (fun i => ∑ d : Fin 256, q d * k d ⟨256 * h.val + i.val, by omega⟩) j * v ⟨256 * h.val + j.val, by omega⟩ c := by
  unfold rowMem
  refine (sum_blocks 4 256 _).trans (Finset.sum_congr rfl fun h _ => Finset.sum_congr rfl fun j _ => ?_)
  have e1 : (256 * h.val + j.val) / 256 = h.val := by omega
  have e2 : (256 * h.val + j.val) % 256 = j.val := by omega
  simp only [e1, e2]

theorem mem_at (b : Fin 16) (q : Fin 4096) (h' : Fin 4) (d' : Fin 64) :
    rowMem (fun d => ((r2 (ix3 b q d) : ℝ) : EReal)) (fun d i => packK (fun i => (r3 i : EReal)) (ix4 0 b d i)) (fun i c => packV x4 (ix4 0 b i c))
      ⟨64 * h'.val + d'.val, by omega⟩ = branch (fun i => (r2 i : EReal)) (fun i => (r3 i : EReal)) x4 b q h' d' := by
  rw [rowMem_blocks]
  simp only [packed_real, packV_apply]
  rw [sum_one_block h' (fun h j => soft (fun i => ((scoreR r2 r3 b h q i : ℝ) : EReal)) j) (fun h j => x4 (ix4 b j h d'))]
  unfold branch weight top
  refine Finset.sum_congr rfl fun j _ => ?_
  simp only [score_real]
  rw [soft_real, mul_comm]

theorem mem_eq (b : Fin 16) (q : Fin 4096) (c : Fin 256) :
    rowMem (fun d => ((r2 (ix3 b q d) : ℝ) : EReal)) (fun d i => packK (fun i => (r3 i : EReal)) (ix4 0 b d i)) (fun i c => packV x4 (ix4 0 b i c)) c
      = branch (fun i => (r2 i : EReal)) (fun i => (r3 i : EReal)) x4 b q ⟨c.val / 64, by omega⟩ ⟨c.val % 64, Nat.mod_lt _ (by decide)⟩ := by
  rw [← mem_at]
  exact congrArg _ (Fin.ext (Nat.div_add_mod _ _).symm)

variable (x0 : FVec Ideal Cert.FinalIdeal.S16x4096x1024 .f32) (x1 : FVec Ideal Cert.FinalIdeal.S16x4096x768 .f32)
  (x5 : FVec Ideal Cert.FinalIdeal.S16x4096x1024 .f32) (x6 : FVec Ideal Cert.FinalIdeal.S1024x1024 .f32) (x7 : FVec Ideal Cert.FinalIdeal.S1024 .f32)

theorem pre_eq (b : Fin 16) (q : Fin 4096) (j : Fin 1024) :
    rowPre (fun j => x0 (ix3 b q j)) (fun d => x1 (ix3 b q d))
      (rowMem (fun d => ((r2 (ix3 b q d) : ℝ) : EReal)) (fun d i => packK (fun i => (r3 i : EReal)) (ix4 0 b d i)) (fun i c => packV x4 (ix4 0 b i c)))
      (fun d => x5 (ix3 b q d)) (fun d j => x6 (ix2 d j)) j
      = pre x0 x1 (fun i => (r2 i : EReal)) (fun i => (r3 i : EReal)) x4 x5 x6 b q j := by
  unfold rowPre pre
  simp only [gate_eq, mem_eq]

theorem final_eq : arrFinal x0 x1 (fun i => (r2 i : EReal)) x5 (packK fun i => (r3 i : EReal)) (packV x4) x6 (packG x7)
    = Cert.FinalReferenceIdeal.Read.val_main_v35 (F := Ideal) x0 x1 (fun i => (r2 i : EReal)) (fun i => (r3 i : EReal)) x4 x5 x6 x7 := by
  funext i
  idx_vars i
  rw [v35_at]
  have hp := funext (pre_eq r2 r3 x4 x0 x1 x5 x6 i0 i1)
  unfold arrFinal rowNorm
  show rowPre (fun j => x0 (ix3 i0 i1 j)) _ _ _ _ i2 * Ideal.rsqrt (Ideal.div (∑ k : Fin 1024, _ * _) _ + _) * packG x7 (ix2 0 i2) = _
  rw [packG_apply, ← hp]
  rfl

end

end Cert.Proof.FinalEquation

end
-- ==== Proof.FinalFinite.lean ====
/-
  The precondition read back: the memory's queries and its keys are real numbers.
-/
module

public import proofs.«01_k».proof.Pre_finite_mem
public import proofs.«01_k».proof.Proof.Finite
public import Idealize.ShloMosaic.Lib.ReduceAll
public import Idealize.ShloMosaic.PureOps.Ideal.Laws

@[expose] public section

set_option maxRecDepth 16384

noncomputable section

namespace Cert.Pre_finite_mem

open Idealize.ShloMosaic

theorem facts : Facts where
  bcast_S_S16x4096x256 := by decide
  reducesTo_S16x4096x256_S_d0_1_2 := by decide
  h_S_ := by decide
  bcast_S_S16x256x4x64 := by decide
  reducesTo_S16x256x4x64_S_d0_1_2_3 := by decide

variable [hf : Facts]

/-- Every element of an array that passes the precondition's test is a real number. -/
theorem real_of_all {s : Shape} (x : FVec Ideal s .f32) (hb : S_.BroadcastsInDim s (![] : Fin 0 → Fin s.rank)) {axes : List (Fin s.rank)}
    (hr : s.ReducesTo axes S_) (j : S_.Idx)
    (h : Host.reduce IntOp.andi (cmpf .olt (Host.absf x) (broadcastInDim s ![] hb (constant (F := Ideal) S_ .f32 0x7F800000#32)))
      (constantI S_ 1 1#1) hr Facts.h_S_ j = 1#1) (i : s.Idx) : ∃ r : ℝ, x i = (r : EReal) := by
  haveI : Subsingleton S_.Idx := ⟨fun a b => funext fun k => k.elim0⟩
  have h1 := Host.reduce_andi_all _ _ hr _ j h i
  refine Cert.Pre_finite_qk.real_of_lt (x i) ?_
  rw [← Cert.Pre_finite_qk.inf_word]
  exact h1

theorem real_of_pre (a0 : FVec Ideal S16x4096x1024 .f32) (a1 : FVec Ideal S16x4096x768 .f32) (a2 : FVec Ideal S16x4096x256 .f32)
    (a3 a4 : FVec Ideal S16x256x4x64 .f32) (a5 : FVec Ideal S16x4096x1024 .f32) (a6 : FVec Ideal S1024x1024 .f32) (a7 : FVec Ideal S1024 .f32)
    (h : fn (F := Ideal) a0 a1 a2 a3 a4 a5 a6 a7 = fun _ => 1#1) :
    (∀ i, ∃ r : ℝ, a2 i = (r : EReal)) ∧ ∀ i, ∃ r : ℝ, a3 i = (r : EReal) := by
  have h0 := congrFun h (fun k => k.elim0)
  unfold fn at h0
  dsimp only at h0
  obtain ⟨h0, h1⟩ := IntOp.andi_eq_one.1 h0
  exact ⟨real_of_all a2 _ _ _ h0, real_of_all a3 _ _ _ h1⟩

end Cert.Pre_finite_mem

end
-- ==== Proof.FinalValue.lean ====
/-
  The last layer's frames and its value claim: from finite memory queries and keys, the kernel's result array and the
  reference's are one array.
-/
module

public import proofs.«01_k».proof.Defs
public import proofs.«01_k».proof.Proof.FinalEquation
public import proofs.«01_k».proof.Proof.FinalFinite
public import proofs.«01_k».proof.Proof.Gen.Final
public import proofs.«01_k».proof.Proof.Gen.FinalIdeal.Value
public import proofs.«01_k».proof.Proof.Gen.FinalReferenceIdeal.Run
public import Idealize.ShloMosaic.Lib.Quiescent

@[expose] public section

set_option maxRecDepth 16384

noncomputable section

namespace Cert.Proof

open Idealize.ShloMosaic Idealize.ShloMosaic.TcCoe Idealize.SL.Sem

theorem frame_final_ideal : Cert.quiescent_FinalIdeal := fun m ρ _ => Cert.FinalIdeal.Gen.frame (F := Ideal) m ρ

/-- The two programs' bodies agree, label by label. -/
theorem final_defs₀_eq {F : FTy → Type} [FloatOps F] : Cert.Final.defs₀ (F := F) = Cert.FinalIdeal.defs₀ (F := F) := by
  refine congrArg (Defs.onTc (nD := Cert.FinalIdeal.nD) (τ := Cert.FinalIdeal.τ) (sig := Cert.FinalIdeal.sig)
    (Val := Elt F) (Λ := Cert.FinalIdeal.Λ₀)) ?_
  refine funext fun ℓ => funext fun a => ?_
  match ℓ, a with
  | 0, (t, s) => rfl

theorem final_defs_eq {F : FTy → Type} [FloatOps F] : Cert.Final.defs (F := F) = Cert.FinalIdeal.defs (F := F) :=
  congrArg (Pipeline.defs (Cert.FinalIdeal.pcfgs (F := F))) final_defs₀_eq

theorem frame_final : Cert.quiescent_Final := fun m ρ _ => by
  have h := Cert.FinalIdeal.Gen.frame (F := Bits) m ρ
  rw [← final_defs_eq] at h
  exact h

/-- The reference declares no semaphore, so every counter of its final state is zero. -/
theorem frame_final_reference : Cert.quiescent_FinalReferenceIdeal := fun m ρ _ =>
  (θ_run Cert.FinalReferenceIdeal.defs _ _).mono
    (fun r h => ⟨fun c => (h c).2, sem_eq_zero_of_no_sems rfl r.2⟩) (Cert.FinalReferenceIdeal.Value.run (F := Ideal) m ρ)

open Cert.FinalIdeal.Steps (arrFinal packK packV packG)

/-- The two results as functions of the arguments. -/
theorem final_out_eq (x0 : FVec Ideal Cert.FinalIdeal.S16x4096x1024 .f32) (x1 : FVec Ideal Cert.FinalIdeal.S16x4096x768 .f32)
    (x2 : FVec Ideal Cert.FinalIdeal.S16x4096x256 .f32) (x3 x4 : FVec Ideal Cert.FinalIdeal.S16x256x4x64 .f32)
    (x5 : FVec Ideal Cert.FinalIdeal.S16x4096x1024 .f32) (x6 : FVec Ideal Cert.FinalIdeal.S1024x1024 .f32) (x7 : FVec Ideal Cert.FinalIdeal.S1024 .f32)
    (h2 : ∀ i, ∃ r : ℝ, x2 i = (r : EReal)) (h3 : ∀ i, ∃ r : ℝ, x3 i = (r : EReal)) :
    arrFinal x0 x1 x2 x5 (packK x3) (packV x4) x6 (packG x7) = Cert.FinalReferenceIdeal.Read.val_main_v35 (F := Ideal) x0 x1 x2 x3 x4 x5 x6 x7 := by
  choose r2 e2 using h2
  choose r3 e3 using h3
  obtain rfl : x2 = fun i => (r2 i : EReal) := funext e2
  obtain rfl : x3 = fun i => (r3 i : EReal) := funext e3
  exact FinalEquation.final_eq r2 r3 x4 x0 x1 x5 x6 x7

section

open Cert.FinalIdeal Cert.FinalIdeal.Gen Cert.FinalIdeal.Steps

/-- The kernel's result array from the arguments. -/
theorem final_arr (m : (ℓ : Loc nD τ sig) → Buf (Elt Ideal) ℓ) (c : Dev nD) : (dats m 0 c).arrAt 8 cfg0.N
    = arrFinal (m ((c.tc : Thread nD τ).loc main_arg0)) (m ((c.tc : Thread nD τ).loc main_arg1)) (m ((c.tc : Thread nD τ).loc main_arg2))
      (m ((c.tc : Thread nD τ).loc main_arg5)) (packK (m ((c.tc : Thread nD τ).loc main_arg3))) (packV (m ((c.tc : Thread nD τ).loc main_arg4)))
      (m ((c.tc : Thread nD τ).loc main_arg6)) (packG (m ((c.tc : Thread nD τ).loc main_arg7))) := by
  rw [arr_eq, V_main_arg0, V_v20, V_v21, V_v22, V_v10, V_v19, V_v23, V_v24]

end

theorem final_value : letI := Cert.Pre_finite_mem.facts
    Cert.algebraic_FinalIdeal_FinalReferenceIdeal_pre_finite_mem := by
  letI := Cert.Pre_finite_mem.facts
  intro m g m' g' hpre hagree
  refine ⟨fun c => Cert.FinalReferenceIdeal.Read.val_main_v35 (F := Ideal) (m (c.tc.loc Cert.FinalIdeal.main_arg0))
    (m (c.tc.loc Cert.FinalIdeal.main_arg1)) (m (c.tc.loc Cert.FinalIdeal.main_arg2)) (m (c.tc.loc Cert.FinalIdeal.main_arg3))
    (m (c.tc.loc Cert.FinalIdeal.main_arg4)) (m (c.tc.loc Cert.FinalIdeal.main_arg5)) (m (c.tc.loc Cert.FinalIdeal.main_arg6))
    (m (c.tc.loc Cert.FinalIdeal.main_arg7)), ?_, ?_⟩
  rotate_left
  · refine (θ_run _ _ _).mono (fun r h c => ?_) (Cert.FinalReferenceIdeal.Value.run (F := Ideal) m' g')
    have hc := h c
    refine ⟨hc.1.trans ?_, hc.2⟩
    obtain ⟨a0, a1, a2, a3, a4, a5, a6, a7⟩ := hagree c
    rw [Cert.FinalReferenceIdeal.Read.val_main_v35_eq (F := Ideal), a0, a1, a2, a3, a4, a5, a6, a7]
  · refine (θ_run _ _ _).mono (fun r h c => ?_) (Cert.FinalIdeal.Value.run_blocks (F := Ideal) m g)
    have hc := h c
    refine ⟨hc.1.trans ((final_arr m c).trans ?_), hc.2⟩
    obtain ⟨h2, h3⟩ := Cert.Pre_finite_mem.real_of_pre _ _ _ _ _ _ _ _ (hpre c)
    exact final_out_eq _ _ _ _ _ _ _ _ h2 h3

end Cert.Proof

end
-- ==== Proof.InnerArray.lean ====
/-
  What the second layer's projection leaves in its four result arrays: each token's normed row times the joined weights' columns.
-/
module

public import proofs.«01_k».proof.Proof.Gen.InnerIdeal.Value
public import Idealize.ShloMosaic.Lib.Pipeline.ValueKit
public import Idealize.ShloMosaic.Lib.Pointwise
public import Idealize.ShloMosaic.Lib.Claim

@[expose] public section

set_option maxRecDepth 16384

noncomputable section

namespace Cert.InnerIdeal.Steps

open Cert.InnerIdeal Cert.InnerIdeal.Gen
open Idealize.ShloMosaic Idealize.ShloMosaic.TcCoe
open Idealize.ShloMosaic.Pipeline (Dat)

/-- A row divided by the root of its mean square, times the gain, times one column of weights. -/
def project (x g w : Fin 1024 → EReal) : EReal :=
  ∑ d : Fin 1024, x d * Ideal.rsqrt (Ideal.div (∑ i : Fin 1024, x i * x i) (Ideal.ofBits .f32 0x44800000#32) + Ideal.ofBits .f32 0x358637BD#32) * g d * w d

theorem product_apply (x : Vec Ideal S1x1024x1024 .f32) (g : Vec Ideal S1x1024 .f32) (w : Vec Ideal S1024x2816 .bf16) (r : Fin 1024) (c : Fin 2816) :
    k0_pay2 x g w (ix2 r c) = project (fun d => x (ix3 0 r d)) (fun d => g (ix2 0 d)) (fun d => w (ix2 d c)) := by
  unfold project
  pointwise [k0_pay2]

section

variable (x : Vec Ideal S1x1024x1024 .f32) (g : Vec Ideal S1x1024 .f32) (w : Vec Ideal S1024x2816 .bf16)

theorem ld_x : View.ld x r0_0 = x := by
  funext y
  refine congrArg x ?_
  funext a; fin_cases a <;> refine Fin.ext ?_ <;> exact Nat.zero_add _ |>.trans (Nat.one_mul _)
theorem ld_g : View.ld g r0_1 = g := by
  funext y
  refine congrArg g ?_
  funext a; fin_cases a <;> refine Fin.ext ?_ <;> exact Nat.zero_add _ |>.trans (Nat.one_mul _)
theorem ld_w : View.ld w r0_2 = w := by
  funext y
  refine congrArg w ?_
  funext a; fin_cases a <;> refine Fin.ext ?_ <;> exact Nat.zero_add _ |>.trans (Nat.one_mul _)

theorem out3_apply (r : Fin 1024) (j : Fin 768) : out0_3 x g w (ix3 0 r j)
    = project (fun d => x (ix3 0 r d)) (fun d => g (ix2 0 d)) (fun d => w (ix2 d ⟨j.val + 0, by omega⟩)) := by
  unfold out0_3
  rw [Value.canon3_eq, ld_x, ld_g, ld_w, ← product_apply]
  refine congrArg (k0_pay2 x g w) ?_
  funext a; fin_cases a <;> rfl

theorem out4_apply (r : Fin 1024) (j : Fin 768) : out0_4 x g w (ix3 0 r j)
    = project (fun d => x (ix3 0 r d)) (fun d => g (ix2 0 d)) (fun d => w (ix2 d ⟨j.val + 768, by omega⟩)) := by
  unfold out0_4
  rw [Value.canon4_eq, ld_x, ld_g, ld_w, ← product_apply]
  refine congrArg (k0_pay2 x g w) ?_
  funext a; fin_cases a <;> rfl

theorem out5_apply (r : Fin 1024) (j : Fin 256) : out0_5 x g w (ix3 0 r j)
    = project (fun d => x (ix3 0 r d)) (fun d => g (ix2 0 d)) (fun d => w (ix2 d ⟨j.val + 1536, by omega⟩)) := by
  unfold out0_5
  rw [Value.canon5_eq, ld_x, ld_g, ld_w, ← product_apply]
  refine congrArg (k0_pay2 x g w) ?_
  funext a; fin_cases a <;> rfl

theorem out6_apply (r : Fin 1024) (j : Fin 1024) : out0_6 x g w (ix3 0 r j)
    = project (fun d => x (ix3 0 r d)) (fun d => g (ix2 0 d)) (fun d => w (ix2 d ⟨j.val + 1792, by omega⟩)) := by
  unfold out0_6
  rw [Value.canon6_eq, ld_x, ld_g, ld_w, ← product_apply]
  refine congrArg (k0_pay2 x g w) ?_
  funext a; fin_cases a <;> rfl

end

theorem win_idx : ∀ t : Fin cfg0.N, win0_0.index t = ![t.val / 4, t.val % 4, 0] ∧ win0_1.index t = ![0, 0] ∧ win0_2.index t = ![0, 0]
    ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] :=
  (by decide +kernel : ∀ t : Fin grid0.N, _)

variable (m : (ℓ : Loc nD τ sig) → Buf (Elt Ideal) ℓ)

theorem t_lt (t : Fin cfg0.N) : t.val < 64 := (show cfg0.N = 64 from N_0) ▸ t.isLt

/-- The sequence of a grid point. -/
def seqOf (t : Fin cfg0.N) : Fin 16 := ⟨t.val / 4, by have := t_lt t; omega⟩
/-- The token of the sequence that a row of a grid point's block is. -/
def rowOf (t : Fin cfg0.N) (x : Fin 1024) : Fin 4096 := ⟨1024 * (t.val % 4) + x.val, by omega⟩

theorem emb0 (t : Fin cfg0.N) (x : Fin 1024) (y : Fin 1024) :
    (((cfg0.win 0).blk t).view.emb (ix3 0 x y)) = (ix3 (seqOf t) (rowOf t x) y : S16x4096x1024.Idx) := by
  obtain ⟨e0, e1, e2, e3, e4, e5, e6⟩ := win_idx t
  blk_ext [seqOf, rowOf, e0]

theorem emb1 (t : Fin cfg0.N) (y : Fin 1024) : (((cfg0.win 1).blk t).view.emb (ix2 0 y)) = (ix2 0 y : S1x1024.Idx) := by
  obtain ⟨e0, e1, e2, e3, e4, e5, e6⟩ := win_idx t
  blk_ext [seqOf, rowOf, e1]

theorem emb2 (t : Fin cfg0.N) (x : Fin 1024) (y : Fin 2816) : (((cfg0.win 2).blk t).view.emb (ix2 x y)) = (ix2 x y : S1024x2816.Idx) := by
  obtain ⟨e0, e1, e2, e3, e4, e5, e6⟩ := win_idx t
  blk_ext [seqOf, rowOf, e2]

theorem read0 (W : (b : Ref sig .tc) → b.ty.Contents (Elt Ideal)) (t : Fin cfg0.N) (x : Fin 1024) (y : Fin 1024) :
    View.read (Elt Ideal) ((cfg0.win 0).blk t).view (W (Pipeline.arrRef spec0 0)) (ix3 0 x y) = W main_arg0 (ix3 (seqOf t) (rowOf t x) y) :=
  congrArg (W main_arg0) (emb0 t x y)

theorem read1 (W : (b : Ref sig .tc) → b.ty.Contents (Elt Ideal)) (t : Fin cfg0.N) (y : Fin 1024) :
    View.read (Elt Ideal) ((cfg0.win 1).blk t).view (W (Pipeline.arrRef spec0 1)) (ix2 0 y) = W main_v3 (ix2 0 y) :=
  congrArg (W main_v3) (emb1 t y)

theorem read2 (W : (b : Ref sig .tc) → b.ty.Contents (Elt Ideal)) (t : Fin cfg0.N) (x : Fin 1024) (y : Fin 2816) :
    View.read (Elt Ideal) ((cfg0.win 2).blk t).view (W (Pipeline.arrRef spec0 2)) (ix2 x y) = W main_v2 (ix2 x y) :=
  congrArg (W main_v2) (emb2 t x y)

theorem iblk0_apply (c : Dev nD) (t : Fin cfg0.N) (x : Fin 1024) (y : Fin 1024) :
    iblk m c 0 t (ix3 0 x y) = V m c main_arg0 (ix3 (seqOf t) (rowOf t x) y) := read0 (V m c) t x y
theorem iblk1_apply (c : Dev nD) (t : Fin cfg0.N) (y : Fin 1024) : iblk m c 1 t (ix2 0 y) = V m c main_v3 (ix2 0 y) := read1 (V m c) t y
theorem iblk2_apply (c : Dev nD) (t : Fin cfg0.N) (x : Fin 1024) (y : Fin 2816) : iblk m c 2 t (ix2 x y) = V m c main_v2 (ix2 x y) := read2 (V m c) t x y

/-- One token's result, from the arrays the kernel reads. -/
def tokenAt (A : FVec Ideal S16x4096x1024 .f32) (G : FVec Ideal S1x1024 .f32) (W : FVec Ideal S1024x2816 .bf16) (b : Fin 16) (s : Fin 4096)
    (c : Fin 2816) : EReal :=
  project (fun d => A (ix3 b s d)) (fun d => G (ix2 0 d)) (fun d => W (ix2 d c))

theorem blk_token (c : Dev nD) (t : Fin cfg0.N) (r : Fin 1024) (j : Fin 2816) :
    project (fun d => iblk m c 0 t (ix3 0 r d)) (fun d => iblk m c 1 t (ix2 0 d)) (fun d => iblk m c 2 t (ix2 d j))
      = tokenAt (V m c main_arg0) (V m c main_v3) (V m c main_v2) (seqOf t) (rowOf t r) j := by
  simp only [iblk0_apply, iblk1_apply, iblk2_apply]
  rfl

/-- Result array 0 from the arrays the kernel reads. -/
def result0 (A : FVec Ideal S16x4096x1024 .f32) (G : FVec Ideal S1x1024 .f32) (W : FVec Ideal S1024x2816 .bf16) : FVec Ideal S16x4096x768 .bf16 :=
  fun i => tokenAt A G W (i 0) (i 1) ⟨(i 2).val + 0, by have h : (i 2).val < 768 := (i 2).isLt; omega⟩

theorem arr3_eq (c : Dev nD) : (dats m 0 c).arrAt 3 cfg0.N = result0 (V m c main_arg0) (V m c main_v3) (V m c main_v2) := by
  refine (dats m 0 c).arrAt_eq_of_covers 3 _ (by decide +kernel) fun t hf y => ?_
  blk_simp
  rw [after0_3]
  obtain ⟨e0, e1, e2, e3, e4, e5, e6⟩ := win_idx t
  idx_vars y
  obtain rfl : y0 = 0 := Subsingleton.elim _ _
  have ei : ((View.whole main_v4_0).slice (win0_3.rect t)).emb (ix3 0 y1 y2) = (ix3 (seqOf t) (rowOf t y1) y2 : S16x4096x768.Idx) := by
    blk_ext [seqOf, rowOf, e3]
  rw [ei, out3_apply, blk_token]
  rfl

/-- Result array 1 from the arrays the kernel reads. -/
def result1 (A : FVec Ideal S16x4096x1024 .f32) (G : FVec Ideal S1x1024 .f32) (W : FVec Ideal S1024x2816 .bf16) : FVec Ideal S16x4096x768 .bf16 :=
  fun i => tokenAt A G W (i 0) (i 1) ⟨(i 2).val + 768, by have h : (i 2).val < 768 := (i 2).isLt; omega⟩

theorem arr4_eq (c : Dev nD) : (dats m 0 c).arrAt 4 cfg0.N = result1 (V m c main_arg0) (V m c main_v3) (V m c main_v2) := by
  refine (dats m 0 c).arrAt_eq_of_covers 4 _ (by decide +kernel) fun t hf y => ?_
  blk_simp
  rw [after0_4]
  obtain ⟨e0, e1, e2, e3, e4, e5, e6⟩ := win_idx t
  idx_vars y
  obtain rfl : y0 = 0 := Subsingleton.elim _ _
  have ei : ((View.whole main_v4_1).slice (win0_4.rect t)).emb (ix3 0 y1 y2) = (ix3 (seqOf t) (rowOf t y1) y2 : S16x4096x768.Idx) := by
    blk_ext [seqOf, rowOf, e4]
  rw [ei, out4_apply, blk_token]
  rfl

/-- Result array 2 from the arrays the kernel reads. -/
def result2 (A : FVec Ideal S16x4096x1024 .f32) (G : FVec Ideal S1x1024 .f32) (W : FVec Ideal S1024x2816 .bf16) : FVec Ideal S16x4096x256 .bf16 :=
  fun i => tokenAt A G W (i 0) (i 1) ⟨(i 2).val + 1536, by have h : (i 2).val < 256 := (i 2).isLt; omega⟩

theorem arr5_eq (c : Dev nD) : (dats m 0 c).arrAt 5 cfg0.N = result2 (V m c main_arg0) (V m c main_v3) (V m c main_v2) := by
  refine (dats m 0 c).arrAt_eq_of_covers 5 _ (by decide +kernel) fun t hf y => ?_
  blk_simp
  rw [after0_5]
  obtain ⟨e0, e1, e2, e3, e4, e5, e6⟩ := win_idx t
  idx_vars y
  obtain rfl : y0 = 0 := Subsingleton.elim _ _
  have ei : ((View.whole main_v4_2).slice (win0_5.rect t)).emb (ix3 0 y1 y2) = (ix3 (seqOf t) (rowOf t y1) y2 : S16x4096x256.Idx) := by
    blk_ext [seqOf, rowOf, e5]
  rw [ei, out5_apply, blk_token]
  rfl

/-- Result array 3 from the arrays the kernel reads. -/
def result3 (A : FVec Ideal S16x4096x1024 .f32) (G : FVec Ideal S1x1024 .f32) (W : FVec Ideal S1024x2816 .bf16) : FVec Ideal S16x4096x1024 .bf16 :=
  fun i => tokenAt A G W (i 0) (i 1) ⟨(i 2).val + 1792, by have h : (i 2).val < 1024 := (i 2).isLt; omega⟩

theorem arr6_eq (c : Dev nD) : (dats m 0 c).arrAt 6 cfg0.N = result3 (V m c main_arg0) (V m c main_v3) (V m c main_v2) := by
  refine (dats m 0 c).arrAt_eq_of_covers 6 _ (by decide +kernel) fun t hf y => ?_
  blk_simp
  rw [after0_6]
  obtain ⟨e0, e1, e2, e3, e4, e5, e6⟩ := win_idx t
  idx_vars y
  obtain rfl : y0 = 0 := Subsingleton.elim _ _
  have ei : ((View.whole main_v4_3).slice (win0_6.rect t)).emb (ix3 0 y1 y2) = (ix3 (seqOf t) (rowOf t y1) y2 : S16x4096x1024.Idx) := by
    blk_ext [seqOf, rowOf, e6]
  rw [ei, out6_apply, blk_token]
  rfl

end Cert.InnerIdeal.Steps

end
-- ==== Proof.InnerPacked.lean ====
/-
  What the operands of the second layer's projection hold: the weights side by side, and the gain as one row.
-/
module

public import proofs.«01_k».proof.Proof.Gen.InnerIdeal.Frame
public import Idealize.ShloMosaic.Lib.Pointwise
public import Idealize.ShloMosaic.Lib.Claim

@[expose] public section

set_option maxRecDepth 16384

noncomputable section

namespace Cert.InnerIdeal.Steps

open Cert.InnerIdeal Cert.InnerIdeal.Gen
open Idealize.ShloMosaic Idealize.ShloMosaic.TcCoe

variable (m : (ℓ : Loc nD τ sig) → Buf (Elt Ideal) ℓ)

/-- The gain as one row. -/
def rowG (x : FVec Ideal S1024 .f32) : FVec Ideal S1x1024 .f32 := shapeCast S1x1024 x shapeCasts_S1024_S1x1024

/-- The Fourier mixing's two parts, and the input weights without its columns, side by side. -/
def joinW (a b : FVec Ideal S1024x768 .f32) (w : FVec Ideal S1024x2048 .f32) : FVec Ideal S1024x2816 .bf16 :=
  truncf (F := Ideal) .bf16 (concatenate S1024x2816 1 [⟨S1024x768, a⟩, ⟨S1024x768, b⟩,
    ⟨S1024x1280, extractStridedSlice S1024x1280 ![0, 768] w slices_S1024x2048_S1024x1280_0_768⟩]
    concatenates_S1024x768_S1024x768_S1024x1280_S1024x2816_d1) bitsLt_bf16_f32

theorem V_v3 (c : Dev nD) : V m c main_v3 = rowG (m ((c : Thread nD τ).loc main_arg1)) := by
  entry_read
  rfl

theorem V_v2 (c : Dev nD) : V m c main_v2 = joinW (m ((c : Thread nD τ).loc main_arg2)) (m ((c : Thread nD τ).loc main_arg3))
    (m ((c : Thread nD τ).loc main_arg4)) := by
  show StableHlo.after hostOps0 (fun b => m (c, b)) _ = _
  simp only [StableHlo.after_cons, StableHlo.after_nil]
  rw [StableHlo.reshape_result_ne]
  rotate_left
  · decide
  rw [StableHlo.unary_result, StableHlo.nary_result]
  generalize hW : HloOp.result (StableHlo.unary main_arg4 main_v0 _ _ _) _ = W
  have e0 : W (Proc.devRef .tc main_arg2) = m ((c : Thread nD τ).loc main_arg2) := by
    subst hW
    rw [StableHlo.unary_result_ne]
    decide
  have e1 : W (Proc.devRef .tc main_arg3) = m ((c : Thread nD τ).loc main_arg3) := by
    subst hW
    rw [StableHlo.unary_result_ne]
    decide
  have e2 : W (Proc.devRef .tc main_v0)
      = extractStridedSlice S1024x1280 ![0, 768] (m ((c : Thread nD τ).loc main_arg4)) slices_S1024x2048_S1024x1280_0_768 := by
    subst hW
    rw [StableHlo.unary_result]
  unfold joinW
  rw [← e0, ← e1, ← e2]
  rfl

theorem rowG_apply (x : FVec Ideal S1024 .f32) (j : Fin 1024) : rowG x (ix2 0 j) = x (ix1 j) := by
  unfold rowG
  pointwise

section

variable (a b : FVec Ideal S1024x768 .f32) (w : FVec Ideal S1024x2048 .f32) (d : Fin 1024)

theorem joinW_first (j : Fin 768) : joinW a b w (ix2 d ⟨j.val + 0, by omega⟩) = a (ix2 d j) := by
  unfold joinW
  pointwise

theorem joinW_second (j : Fin 768) : joinW a b w (ix2 d ⟨j.val + 768, by omega⟩) = b (ix2 d j) := by
  unfold joinW
  pointwise
  split_ifs <;> first | (exfalso; omega) | exact congrArg (fun t => b (ix2 d t)) (Fin.ext (by dsimp only; omega))

theorem joinW_query (j : Fin 256) : joinW a b w (ix2 d ⟨j.val + 1536, by omega⟩) = w (ix2 d ⟨768 + j.val, by omega⟩) := by
  unfold joinW
  pointwise
  split_ifs <;> first | (exfalso; omega) | exact congrArg (fun t => w (ix2 d t)) (Fin.ext (by dsimp only; omega))

theorem joinW_gate (j : Fin 1024) : joinW a b w (ix2 d ⟨j.val + 1792, by omega⟩) = w (ix2 d ⟨1024 + j.val, by omega⟩) := by
  unfold joinW
  pointwise
  split_ifs <;> first | (exfalso; omega) | exact congrArg (fun t => w (ix2 d t)) (Fin.ext (by dsimp only; omega))

end

end Cert.InnerIdeal.Steps

end
-- ==== Proof.InnerRefer.lean ====
/-
  The layer's projections, by the reference: each result read at an index.
-/
module

public import proofs.«01_k».proof.Proof.InnerArray
public import proofs.«01_k».proof.Proof.Gen.InnerReferenceIdeal.Read
public import Idealize.ShloMosaic.Lib.Pointwise

@[expose] public section

set_option maxRecDepth 16384

noncomputable section

namespace Cert.InnerReferenceIdeal.Stages

open Cert.InnerReferenceIdeal Cert.InnerReferenceIdeal.Gen Cert.InnerReferenceIdeal.Read
open Idealize.ShloMosaic
open Cert.InnerIdeal.Steps (project)

variable (x0 : (⟨S16x4096x1024, .f32⟩ : BufTy).Contents (Elt Ideal)) (x1 : (⟨S1024, .f32⟩ : BufTy).Contents (Elt Ideal))
  (x2 x3 : (⟨S1024x768, .f32⟩ : BufTy).Contents (Elt Ideal)) (x4 : (⟨S1024x2048, .f32⟩ : BufTy).Contents (Elt Ideal))
  (b : Fin 16) (s : Fin 4096)

theorem v1_at : val_main_v1 (F := Ideal) x0 (ix2 b s) = ∑ k : Fin 1024, x0 (ix3 b s k) * x0 (ix3 b s k) := by
  have hi : ∀ k, idx_main_v1 (ix2 b s) k = ix3 b s k := fun k => by funext a; fin_cases a <;> rfl
  rw [val_main_v1_apply]
  simp only [hi, val_main_v0_apply, val_main_cst_apply]
  show Ideal.ofBits FTy.f32 0#32 + _ = _
  rw [show Ideal.ofBits FTy.f32 0#32 = 0 by simp [Ideal.ofBits, Ideal.ieee], zero_add]
  rfl

/-- The normed token. -/
theorem v12_at (d : Fin 1024) : val_main_v12 (F := Ideal) x0 x1 (ix3 b s d)
    = x0 (ix3 b s d) * Ideal.rsqrt (Ideal.div (∑ k : Fin 1024, x0 (ix3 b s k) * x0 (ix3 b s k))
      (Ideal.ofBits .f32 0x44800000#32) + Ideal.ofBits .f32 0x358637BD#32) * x1 (ix1 d) := by
  rw [val_main_v12_apply, val_main_v9_apply, val_main_v8_apply, val_main_v7_apply, val_main_v6_apply, val_main_v4_apply, val_main_v2_apply,
    val_main_v3_apply, val_main_v5_apply, val_main_v11_apply, val_main_v10_apply,
    show idx_main_v2 (idx_main_v8 (ix3 b s d)) = ix2 b s by funext a; fin_cases a <;> rfl,
    show idx_main_v10 (idx_main_v11 (ix3 b s d)) = ix1 d by funext a; fin_cases a <;> rfl, v1_at]
  rfl

theorem v17_at (j : Fin 768) : val_main_v17 (F := Ideal) x0 x1 x2 (ix3 b s j)
    = project (fun d => x0 (ix3 b s d)) (fun d => x1 (ix1 d)) (fun d => x2 (ix2 d j)) := by
  have h1 : ∀ k, lidx_main_v16 (ix3 b s j) k = ix3 b s k := fun k => by funext a; fin_cases a <;> rfl
  have h2 : ∀ k, ridx_main_v16 (ix3 b s j) k = ix2 k j := fun k => by funext a; fin_cases a <;> rfl
  rw [val_main_v17_apply, val_main_v16_apply]
  simp only [h1, h2, v12_at]
  rfl

theorem v19_at (j : Fin 768) : val_main_v19 (F := Ideal) x0 x1 x3 (ix3 b s j)
    = project (fun d => x0 (ix3 b s d)) (fun d => x1 (ix1 d)) (fun d => x3 (ix2 d j)) := by
  have h1 : ∀ k, lidx_main_v18 (ix3 b s j) k = ix3 b s k := fun k => by funext a; fin_cases a <;> rfl
  have h2 : ∀ k, ridx_main_v18 (ix3 b s j) k = ix2 k j := fun k => by funext a; fin_cases a <;> rfl
  rw [val_main_v19_apply, val_main_v18_apply]
  simp only [h1, h2, v12_at]
  rfl

theorem v13_at (j : Fin 2048) : val_main_v13 (F := Ideal) x0 x1 x4 (ix3 b s j)
    = project (fun d => x0 (ix3 b s d)) (fun d => x1 (ix1 d)) (fun d => x4 (ix2 d j)) := by
  have h1 : ∀ k, lidx_main_v13 (ix3 b s j) k = ix3 b s k := fun k => by funext a; fin_cases a <;> rfl
  have h2 : ∀ k, ridx_main_v13 (ix3 b s j) k = ix2 k j := fun k => by funext a; fin_cases a <;> rfl
  rw [val_main_v13_apply]
  simp only [h1, h2, v12_at]
  rfl

theorem v20_at (j : Fin 256) : val_main_v20 (F := Ideal) x0 x1 x4 (ix3 b s j)
    = project (fun d => x0 (ix3 b s d)) (fun d => x1 (ix1 d)) (fun d => x4 (ix2 d ⟨768 + j.val, by omega⟩)) := by
  rw [val_main_v20_apply, val_main_v14_apply,
    show idx_main_v14 (ix3 b s j) = ix3 b s ⟨768 + j.val, by omega⟩ by funext a; fin_cases a <;> rfl, v13_at]
  rfl

theorem v21_at (j : Fin 1024) : val_main_v21 (F := Ideal) x0 x1 x4 (ix3 b s j)
    = project (fun d => x0 (ix3 b s d)) (fun d => x1 (ix1 d)) (fun d => x4 (ix2 d ⟨1024 + j.val, by omega⟩)) := by
  rw [val_main_v21_apply, val_main_v15_apply,
    show idx_main_v15 (ix3 b s j) = ix3 b s ⟨1024 + j.val, by omega⟩ by funext a; fin_cases a <;> rfl, v13_at]
  rfl

end Cert.InnerReferenceIdeal.Stages

end
-- ==== Proof.InnerValue.lean ====
/-
  The projections' frames and value claim: the kernel's four result arrays and the reference's are the same arrays.
-/
module

public import proofs.«01_k».proof.Defs
public import proofs.«01_k».proof.Proof.InnerArray
public import proofs.«01_k».proof.Proof.InnerPacked
public import proofs.«01_k».proof.Proof.InnerRefer
public import proofs.«01_k».proof.Proof.Gen.Inner
public import proofs.«01_k».proof.Proof.Gen.InnerIdeal.Value
public import proofs.«01_k».proof.Proof.Gen.InnerReferenceIdeal.Run
public import Idealize.ShloMosaic.Lib.Quiescent

@[expose] public section

set_option maxRecDepth 16384

noncomputable section

namespace Cert.Proof

open Idealize.ShloMosaic Idealize.ShloMosaic.TcCoe Idealize.SL.Sem

theorem frame_inner_ideal : Cert.quiescent_InnerIdeal := fun m ρ _ => Cert.InnerIdeal.Gen.frame (F := Ideal) m ρ

/-- The two programs' bodies agree, label by label. -/
theorem inner_defs₀_eq {F : FTy → Type} [FloatOps F] : Cert.Inner.defs₀ (F := F) = Cert.InnerIdeal.defs₀ (F := F) := by
  refine congrArg (Defs.onTc (nD := Cert.InnerIdeal.nD) (τ := Cert.InnerIdeal.τ) (sig := Cert.InnerIdeal.sig)
    (Val := Elt F) (Λ := Cert.InnerIdeal.Λ₀)) ?_
  refine funext fun ℓ => funext fun a => ?_
  match ℓ, a with
  | 0, (t, s) => rfl

theorem inner_defs_eq {F : FTy → Type} [FloatOps F] : Cert.Inner.defs (F := F) = Cert.InnerIdeal.defs (F := F) :=
  congrArg (Pipeline.defs (Cert.InnerIdeal.pcfgs (F := F))) inner_defs₀_eq

theorem frame_inner : Cert.quiescent_Inner := fun m ρ _ => by
  have h := Cert.InnerIdeal.Gen.frame (F := Bits) m ρ
  rw [← inner_defs_eq] at h
  exact h

/-- The reference declares no semaphore, so every counter of its final state is zero. -/
theorem frame_inner_reference : Cert.quiescent_InnerReferenceIdeal := fun m ρ _ =>
  (θ_run Cert.InnerReferenceIdeal.defs _ _).mono
    (fun r h => ⟨fun c => (h c).2.2.2.2, sem_eq_zero_of_no_sems rfl r.2⟩) (Cert.InnerReferenceIdeal.Value.run (F := Ideal) m ρ)

open Cert.InnerIdeal.Steps Cert.InnerReferenceIdeal.Read Cert.InnerReferenceIdeal.Stages

section

variable (x0 : FVec Ideal Cert.InnerIdeal.S16x4096x1024 .f32) (x1 : FVec Ideal Cert.InnerIdeal.S1024 .f32)
  (x2 x3 : FVec Ideal Cert.InnerIdeal.S1024x768 .f32) (x4 : FVec Ideal Cert.InnerIdeal.S1024x2048 .f32)

/-- An array of three axes from its entries. -/
theorem ext3 {n0 n1 n2 : Nat} {t : FTy} (f g : FVec Ideal (⟨3, ![n0, n1, n2]⟩ : Shape) t)
    (h : ∀ b s j, f (ix3 b s j) = g (ix3 b s j)) : f = g := by
  funext i
  have hi : i = ix3 (i 0) (i 1) (i 2) := by funext a; fin_cases a <;> rfl
  rw [hi]
  exact h _ _ _

theorem inner_first : result0 x0 (rowG x1) (joinW x2 x3 x4) = val_main_v17 (F := Ideal) x0 x1 x2 := by
  have h : ∀ (b : Fin 16) (s : Fin 4096) (j : Fin 768), result0 x0 (rowG x1) (joinW x2 x3 x4) (ix3 b s j)
      = val_main_v17 (F := Ideal) x0 x1 x2 (ix3 b s j) := fun b s j => by
    rw [v17_at]
    show project (fun d => x0 (ix3 b s d)) (fun d => rowG x1 (ix2 0 d)) (fun d => joinW x2 x3 x4 (ix2 d ⟨j.val + 0, _⟩)) = _
    simp only [rowG_apply, joinW_first]
  exact ext3 _ _ h

theorem inner_second : result1 x0 (rowG x1) (joinW x2 x3 x4) = val_main_v19 (F := Ideal) x0 x1 x3 := by
  have h : ∀ (b : Fin 16) (s : Fin 4096) (j : Fin 768), result1 x0 (rowG x1) (joinW x2 x3 x4) (ix3 b s j)
      = val_main_v19 (F := Ideal) x0 x1 x3 (ix3 b s j) := fun b s j => by
    rw [v19_at]
    show project (fun d => x0 (ix3 b s d)) (fun d => rowG x1 (ix2 0 d)) (fun d => joinW x2 x3 x4 (ix2 d ⟨j.val + 768, _⟩)) = _
    simp only [rowG_apply, joinW_second]
  exact ext3 _ _ h

theorem inner_query : result2 x0 (rowG x1) (joinW x2 x3 x4) = val_main_v20 (F := Ideal) x0 x1 x4 := by
  have h : ∀ (b : Fin 16) (s : Fin 4096) (j : Fin 256), result2 x0 (rowG x1) (joinW x2 x3 x4) (ix3 b s j)
      = val_main_v20 (F := Ideal) x0 x1 x4 (ix3 b s j) := fun b s j => by
    rw [v20_at]
    show project (fun d => x0 (ix3 b s d)) (fun d => rowG x1 (ix2 0 d)) (fun d => joinW x2 x3 x4 (ix2 d ⟨j.val + 1536, _⟩)) = _
    simp only [rowG_apply, joinW_query]
  exact ext3 _ _ h

theorem inner_gate : result3 x0 (rowG x1) (joinW x2 x3 x4) = val_main_v21 (F := Ideal) x0 x1 x4 := by
  have h : ∀ (b : Fin 16) (s : Fin 4096) (j : Fin 1024), result3 x0 (rowG x1) (joinW x2 x3 x4) (ix3 b s j)
      = val_main_v21 (F := Ideal) x0 x1 x4 (ix3 b s j) := fun b s j => by
    rw [v21_at]
    show project (fun d => x0 (ix3 b s d)) (fun d => rowG x1 (ix2 0 d)) (fun d => joinW x2 x3 x4 (ix2 d ⟨j.val + 1792, _⟩)) = _
    simp only [rowG_apply, joinW_gate]
  exact ext3 _ _ h

end

theorem inner_value : Cert.algebraic_InnerIdeal_InnerReferenceIdeal := by
  intro m g m' g' _ hagree
  refine ⟨fun c => val_main_v17 (F := Ideal) (m (c.tc.loc Cert.InnerIdeal.main_arg0)) (m (c.tc.loc Cert.InnerIdeal.main_arg1))
      (m (c.tc.loc Cert.InnerIdeal.main_arg2)),
    fun c => val_main_v19 (F := Ideal) (m (c.tc.loc Cert.InnerIdeal.main_arg0)) (m (c.tc.loc Cert.InnerIdeal.main_arg1))
      (m (c.tc.loc Cert.InnerIdeal.main_arg3)),
    fun c => val_main_v20 (F := Ideal) (m (c.tc.loc Cert.InnerIdeal.main_arg0)) (m (c.tc.loc Cert.InnerIdeal.main_arg1))
      (m (c.tc.loc Cert.InnerIdeal.main_arg4)),
    fun c => val_main_v21 (F := Ideal) (m (c.tc.loc Cert.InnerIdeal.main_arg0)) (m (c.tc.loc Cert.InnerIdeal.main_arg1))
      (m (c.tc.loc Cert.InnerIdeal.main_arg4)), ?_, ?_⟩
  rotate_left
  · refine (θ_run _ _ _).mono (fun r h c => ?_) (Cert.InnerReferenceIdeal.Value.run (F := Ideal) m' g')
    obtain ⟨h0, h1, h2, h3, hr⟩ := h c
    obtain ⟨a0, a1, a2, a3, a4⟩ := hagree c
    refine ⟨h0.trans ?_, h1.trans ?_, h2.trans ?_, h3.trans ?_, hr⟩
    · rw [val_main_v17_eq (F := Ideal), a0, a1, a2]
    · rw [val_main_v19_eq (F := Ideal), a0, a1, a3]
    · rw [val_main_v20_eq (F := Ideal), a0, a1, a4]
    · rw [val_main_v21_eq (F := Ideal), a0, a1, a4]
  · refine (θ_run _ _ _).mono (fun r h c => ?_) (Cert.InnerIdeal.Value.run_blocks (F := Ideal) m g)
    obtain ⟨h0, h1, h2, h3, hr⟩ := h c
    refine ⟨h0.trans ?_, h1.trans ?_, h2.trans ?_, h3.trans ?_, hr⟩
    · rw [arr3_eq, Cert.InnerIdeal.Gen.V_main_arg0, V_v3, V_v2]
      exact inner_first _ _ _ _ _
    · rw [arr4_eq, Cert.InnerIdeal.Gen.V_main_arg0, V_v3, V_v2]
      exact inner_second _ _ _ _ _
    · rw [arr5_eq, Cert.InnerIdeal.Gen.V_main_arg0, V_v3, V_v2]
      exact inner_query _ _ _ _ _
    · rw [arr6_eq, Cert.InnerIdeal.Gen.V_main_arg0, V_v3, V_v2]
      exact inner_gate _ _ _ _ _

end Cert.Proof

end
-- ==== Proof.lean ====
/-
  The certificate: the kernel's frames, its idealization, and what it computes.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.Inner
public import proofs.«01_k».proof.Proof.Gen.Inner.Frame
public import proofs.«01_k».proof.Proof.Gen.InnerIdeal
public import proofs.«01_k».proof.Proof.Gen.InnerIdeal.Frame
public import proofs.«01_k».proof.Proof.Gen.InnerIdeal.Value
public import proofs.«01_k».proof.Proof.Gen.InnerReferenceIdeal
public import proofs.«01_k».proof.Proof.Gen.InnerReferenceIdeal.Run
public import proofs.«01_k».proof.Proof.Gen.InnerReferenceIdeal.Read
public import proofs.«01_k».proof.Proof.Frames
public import proofs.«01_k».proof.Proof.Finite
public import proofs.«01_k».proof.Proof.Value
public import proofs.«01_k».proof.Proof.FinalValue
public import proofs.«01_k».proof.Proof.InnerValue
public import Idealize.ShloMosaic.Adequacy
public import Idealize.ShloMosaic.Init

@[expose] public section

noncomputable section

namespace Cert.Proof

/-- All the claims, of the attention, of the last call and of the second layer's projection: frames, those of the ideal programs again under the preconditions,
the idealizations, and the equality of results. -/
theorem claim : Cert.Claim :=
  ⟨Cert.Kernel.Gen.facts, Cert.KernelIdeal.Gen.facts, Cert.ReferenceIdeal.Gen.facts, Cert.Final.Gen.facts, Cert.FinalIdeal.Gen.facts,
    Cert.FinalReferenceIdeal.Gen.facts, Cert.Inner.Gen.facts, Cert.InnerIdeal.Gen.facts, Cert.InnerReferenceIdeal.Gen.facts,
    Cert.Pre_finite_qk.facts, Cert.Pre_finite_mem.facts, frame_kernel, frame_ideal,
    fun m ρ _ => frame_ideal m ρ trivial, frame_reference, fun m ρ _ => frame_reference m ρ trivial, frame_final, frame_final_ideal,
    fun m ρ _ => frame_final_ideal m ρ trivial, frame_final_reference, fun m ρ _ => frame_final_reference m ρ trivial, frame_inner,
    frame_inner_ideal, frame_inner_reference, trivial, value, trivial, final_value, trivial, inner_value⟩

end Cert.Proof

end
